-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S16384x5120 : Shape := ⟨2, ![16384, 5120]⟩
abbrev S2x8192x2x48 : Shape := ⟨4, ![2, 8192, 2, 48]⟩
abbrev S2x48 : Shape := ⟨2, ![2, 48]⟩
abbrev S2x8x6x64x128 : Shape := ⟨5, ![2, 8, 6, 64, 128]⟩
abbrev S16384x96 : Shape := ⟨2, ![16384, 96]⟩
abbrev S_ : Shape := ⟨0, ![]⟩
abbrev S16384x128 : Shape := ⟨2, ![16384, 128]⟩
abbrev S1x96 : Shape := ⟨2, ![1, 96]⟩
abbrev S1x128 : Shape := ⟨2, ![1, 128]⟩
abbrev S128x128x128 : Shape := ⟨3, ![128, 128, 128]⟩
abbrev S128x1x128 : Shape := ⟨3, ![128, 1, 128]⟩
abbrev S1x1x128 : Shape := ⟨3, ![1, 1, 128]⟩
abbrev S2x8x384x128 : Shape := ⟨4, ![2, 8, 384, 128]⟩
abbrev S2x8192x5120 : Shape := ⟨3, ![2, 8192, 5120]⟩
abbrev S2x8192x128 : Shape := ⟨3, ![2, 8192, 128]⟩
abbrev S2x8192x3072 : Shape := ⟨3, ![2, 8192, 3072]⟩
abbrev S2x128x3072 : Shape := ⟨3, ![2, 128, 3072]⟩
abbrev S2x128x1024 : Shape := ⟨3, ![2, 128, 1024]⟩
abbrev S2x128x128 : Shape := ⟨3, ![2, 128, 128]⟩
abbrev S128x128 : Shape := ⟨2, ![128, 128]⟩
abbrev S1x128x128 : Shape := ⟨3, ![1, 128, 128]⟩
abbrev S1x1x384x128 : Shape := ⟨4, ![1, 1, 384, 128]⟩
abbrev S384x128 : Shape := ⟨2, ![384, 128]⟩
abbrev S128x384 : Shape := ⟨2, ![128, 384]⟩
abbrev S128x1 : Shape := ⟨2, ![128, 1]⟩
abbrev S64x128 : Shape := ⟨2, ![64, 128]⟩
abbrev S1x1 : Shape := ⟨2, ![1, 1]⟩
abbrev S1x1x128x128 : Shape := ⟨4, ![1, 1, 128, 128]⟩

abbrev nBuf : Space → Nat
  | .hbm => 77
  | .vmem => 19
  | .smem => 0
  | _ => 0

abbrev bufTy : (tb : Table) → Fin (tcTables nBuf tb) → BufTy
  | .hbm, ⟨0, _⟩ => ⟨S16384x5120, .bf16⟩
  | .hbm, ⟨1, _⟩ => ⟨S2x8192x2x48, .f32⟩
  | .hbm, ⟨2, _⟩ => ⟨S2x48, .f32⟩
  | .hbm, ⟨3, _⟩ => ⟨S2x48, .f32⟩
  | .hbm, ⟨4, _⟩ => ⟨S2x8x6x64x128, .f32⟩
  | .hbm, ⟨5, _⟩ => ⟨S16384x96, .f32⟩
  | .hbm, ⟨6, _⟩ => ⟨S_, .i32⟩
  | .hbm, ⟨7, _⟩ => ⟨S_, .f32⟩
  | .hbm, ⟨8, _⟩ => ⟨S16384x128, .f32⟩
  | .hbm, ⟨9, _⟩ => ⟨S1x96, .f32⟩
  | .hbm, ⟨10, _⟩ => ⟨S_, .i32⟩
  | .hbm, ⟨11, _⟩ => ⟨S_, .f32⟩
  | .hbm, ⟨12, _⟩ => ⟨S1x128, .f32⟩
  | .hbm, ⟨13, _⟩ => ⟨S1x96, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S128x128x128, .i32⟩
  | .hbm, ⟨18, _⟩ => ⟨S128x1x128, .i32⟩
  | .hbm, ⟨19, _⟩ => ⟨S16384x128, .f32⟩
  | .hbm, ⟨20, _⟩ => ⟨S16384x128, .f32⟩
  | .hbm, ⟨21, _⟩ => ⟨S128x128x128, .f32⟩
  | .hbm, ⟨22, _⟩ => ⟨S_, .f32⟩
  | .hbm, ⟨23, _⟩ => ⟨S128x128x128, .f32⟩
  | .hbm, ⟨24, _⟩ => ⟨S128x128x128, .f32⟩
  | .hbm, ⟨25, _⟩ => ⟨S128x128x128, .f32⟩
  | .hbm, ⟨26, _⟩ => ⟨S128x128x128, .f32⟩
  | .hbm, ⟨27, _⟩ => ⟨S128x128x128, .f32⟩
  | .hbm, ⟨28, _⟩ => ⟨S128x128x128, .f32⟩
  | .hbm, ⟨29, _⟩ => ⟨S128x128x128, .f32⟩
  | .hbm, ⟨30, _⟩ => ⟨S_, .i32⟩
  | .hbm, ⟨31, _⟩ => ⟨S128x128x128, .i32⟩
  | .hbm, ⟨32, _⟩ => ⟨S128x128x128, .i1⟩
  | .hbm, ⟨33, _⟩ => ⟨S_, .f32⟩
  | .hbm, ⟨34, _⟩ => ⟨S_, .f32⟩
  | .hbm, ⟨35, _⟩ => ⟨S128x128x128, .f32⟩
  | .hbm, ⟨36, _⟩ => ⟨S128x128x128, .f32⟩
  | .hbm, ⟨37, _⟩ => ⟨S1x128, .f32⟩
  | .hbm, ⟨38, _⟩ => ⟨S1x128, .f32⟩
  | .hbm, ⟨39, _⟩ => ⟨S1x1x128, .f32⟩
  | .hbm, ⟨40, _⟩ => ⟨S128x128x128, .f32⟩
  | .hbm, ⟨41, _⟩ => ⟨S128x128x128, .f32⟩
  | .hbm, ⟨42, _⟩ => ⟨S_, .f32⟩
  | .hbm, ⟨43, _⟩ => ⟨S_, .f32⟩
  | .hbm, ⟨44, _⟩ => ⟨S128x128x128, .f32⟩
  | .hbm, ⟨45, _⟩ => ⟨S_, .f32⟩
  | .hbm, ⟨46, _⟩ => ⟨S_, .f32⟩
  | .hbm, ⟨47, _⟩ => ⟨S128x128x128, .f32⟩
  | .hbm, ⟨48, _⟩ => ⟨S_, .i32⟩
  | .hbm, ⟨49, _⟩ => ⟨S128x128x128, .i32⟩
  | .hbm, ⟨50, _⟩ => ⟨S128x128x128, .i1⟩
  | .hbm, ⟨51, _⟩ => ⟨S128x128x128, .f32⟩
  | .hbm, ⟨52, _⟩ => ⟨S_, .i32⟩
  | .hbm, ⟨53, _⟩ => ⟨S128x1x128, .i32⟩
  | .hbm, ⟨54, _⟩ => ⟨S128x1x128, .i1⟩
  | .hbm, ⟨55, _⟩ => ⟨S128x1x128, .f32⟩
  | .hbm, ⟨56, _⟩ => ⟨S128x1x128, .f32⟩
  | .hbm, ⟨57, _⟩ => ⟨S128x1x128, .f32⟩
  | .hbm, ⟨58, _⟩ => ⟨S128x128x128, .f32⟩
  | .hbm, ⟨59, _⟩ => ⟨S128x128x128, .f32⟩
  | .hbm, ⟨60, _⟩ => ⟨S128x128x128, .f32⟩
  | .hbm, ⟨61, _⟩ => ⟨S128x128x128, .f32⟩
  | .hbm, ⟨62, _⟩ => ⟨S128x128x128, .f32⟩
  | .hbm, ⟨63, _⟩ => ⟨S16384x128, .f32⟩
  | .hbm, ⟨64, _⟩ => ⟨S16384x128, .f32⟩
  | .hbm, ⟨65, _⟩ => ⟨S128x128x128, .f32⟩
  | .hbm, ⟨66, _⟩ => ⟨S16384x128, .f32⟩
  | .hbm, ⟨67, _⟩ => ⟨S128x128x128, .f32⟩
  | .hbm, ⟨68, _⟩ => ⟨S16384x128, .f32⟩
  | .hbm, ⟨69, _⟩ => ⟨S2x8x384x128, .f32⟩
  | .hbm, ⟨70, _⟩ => ⟨S2x8192x5120, .bf16⟩
  | .hbm, ⟨71, _⟩ => ⟨S2x8192x128, .f32⟩
  | .hbm, ⟨72, _⟩ => ⟨S2x8192x128, .f32⟩
  | .hbm, ⟨73, _⟩ => ⟨S2x8192x128, .f32⟩
  | .hbm, ⟨74, _⟩ => ⟨S2x8192x128, .f32⟩
  | .hbm, ⟨75, _⟩ => ⟨S2x8192x3072, .bf16⟩
  | .hbm, ⟨76, _⟩ => ⟨S2x8x384x128, .f32⟩
  | .local _ .vmem, ⟨0, _⟩ => ⟨S2x128x3072, .bf16⟩
  | .local _ .vmem, ⟨1, _⟩ => ⟨S2x128x3072, .bf16⟩
  | .local _ .vmem, ⟨2, _⟩ => ⟨S2x128x1024, .bf16⟩
  | .local _ .vmem, ⟨3, _⟩ => ⟨S2x128x1024, .bf16⟩
  | .local _ .vmem, ⟨4, _⟩ => ⟨S2x128x1024, .bf16⟩
  | .local _ .vmem, ⟨5, _⟩ => ⟨S2x128x1024, .bf16⟩
  | .local _ .vmem, ⟨6, _⟩ => ⟨S2x128x128, .f32⟩
  | .local _ .vmem, ⟨7, _⟩ => ⟨S2x128x128, .f32⟩
  | .local _ .vmem, ⟨8, _⟩ => ⟨S2x128x128, .f32⟩
  | .local _ .vmem, ⟨9, _⟩ => ⟨S2x128x128, .f32⟩
  | .local _ .vmem, ⟨10, _⟩ => ⟨S2x128x128, .f32⟩
  | .local _ .vmem, ⟨11, _⟩ => ⟨S2x128x128, .f32⟩
  | .local _ .vmem, ⟨12, _⟩ => ⟨S2x128x128, .f32⟩
  | .local _ .vmem, ⟨13, _⟩ => ⟨S2x128x128, .f32⟩
  | .local _ .vmem, ⟨14, _⟩ => ⟨S2x8x384x128, .f32⟩
  | .local _ .vmem, ⟨15, _⟩ => ⟨S2x128x3072, .bf16⟩
  | .local _ .vmem, ⟨16, _⟩ => ⟨S2x128x3072, .bf16⟩
  | .local _ .vmem, ⟨17, _⟩ => ⟨S2x8x384x128, .f32⟩
  | .local _ .vmem, ⟨18, _⟩ => ⟨S2x8x384x128, .f32⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_call3_v0 : Ref sig .tc := ⟨.hbm, 34, rfl⟩
abbrev main_call3_v1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call4_cst : Ref sig .tc := ⟨.hbm, 42, rfl⟩
abbrev main_call4_v0 : Ref sig .tc := ⟨.hbm, 43, rfl⟩
abbrev main_v26 : Ref sig .tc := ⟨.hbm, 44, rfl⟩
abbrev main_call5_cst : Ref sig .tc := ⟨.hbm, 45, rfl⟩
abbrev main_call5_v0 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53_0 : Ref sig .tc := ⟨.hbm, 75, rfl⟩
abbrev main_v53_1 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v3665 : BitVec 1 := Scalar.cmpi .eq arg0 c63_i32
  let v3666 : BitVec 32 := Scalar.extui v3665
  let c0_i32_1711 : BitVec 32 := 0#32
  let v3667 : BitVec 1 := Scalar.cmpi .ne v3666 c0_i32_1711
  v3667

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![c0_i32.toNat, arg0.toNat, c3_i32.toNat]

def cc0_transform_2 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![c0_i32.toNat, arg0.toNat, c4_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S2x128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x8x384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x128x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x8x384x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S16384x5120 : Shape := ⟨2, ![16384, 5120]⟩
abbrev S2x8192x2x48 : Shape := ⟨4, ![2, 8192, 2, 48]⟩
abbrev S2x48 : Shape := ⟨2, ![2, 48]⟩
abbrev S2x8x6x64x128 : Shape := ⟨5, ![2, 8, 6, 64, 128]⟩
abbrev S2x8192x5120 : Shape := ⟨3, ![2, 8192, 5120]⟩
abbrev S2x8192x3072 : Shape := ⟨3, ![2, 8192, 3072]⟩
abbrev S2x8192x8x6x64 : Shape := ⟨5, ![2, 8192, 8, 6, 64]⟩
abbrev S2x8192x1024 : Shape := ⟨3, ![2, 8192, 1024]⟩
abbrev S2x8192x8x128 : Shape := ⟨4, ![2, 8192, 8, 128]⟩
abbrev S1x1x2x48 : Shape := ⟨4, ![1, 1, 2, 48]⟩
abbrev S_ : Shape := ⟨0, ![]⟩
abbrev S2x8192x2x8x6 : Shape := ⟨5, ![2, 8192, 2, 8, 6]⟩
abbrev S2x8192x1x8x6 : Shape := ⟨5, ![2, 8192, 1, 8, 6]⟩
abbrev S2x8192x8x6 : Shape := ⟨4, ![2, 8192, 8, 6]⟩
abbrev S2x8x6 : Shape := ⟨3, ![2, 8, 6]⟩
abbrev S1x8x6 : Shape := ⟨3, ![1, 8, 6]⟩
abbrev S8x6 : Shape := ⟨2, ![8, 6]⟩
abbrev S1x1x8x6 : Shape := ⟨4, ![1, 1, 8, 6]⟩
abbrev S2x8192x8x6x1 : Shape := ⟨5, ![2, 8192, 8, 6, 1]⟩
abbrev S128x128 : Shape := ⟨2, ![128, 128]⟩
abbrev S1x128x128x1x1 : Shape := ⟨5, ![1, 128, 128, 1, 1]⟩
abbrev S2x64x128x8x6x64 : Shape := ⟨6, ![2, 64, 128, 8, 6, 64]⟩
abbrev S64x2x128x8x6x64 : Shape := ⟨6, ![64, 2, 128, 8, 6, 64]⟩
abbrev S2x64x128x8x6 : Shape := ⟨5, ![2, 64, 128, 8, 6]⟩
abbrev S64x2x128x8x6 : Shape := ⟨5, ![64, 2, 128, 8, 6]⟩
abbrev S2x64x128x8x128 : Shape := ⟨5, ![2, 64, 128, 8, 128]⟩
abbrev S64x2x128x8x128 : Shape := ⟨5, ![64, 2, 128, 8, 128]⟩
abbrev S1x2x128x8x6x64 : Shape := ⟨6, ![1, 2, 128, 8, 6, 64]⟩
abbrev S2x128x8x6x64 : Shape := ⟨5, ![2, 128, 8, 6, 64]⟩
abbrev S1x2x128x8x6 : Shape := ⟨5, ![1, 2, 128, 8, 6]⟩
abbrev S2x128x8x6 : Shape := ⟨4, ![2, 128, 8, 6]⟩
abbrev S1x2x128x8x128 : Shape := ⟨5, ![1, 2, 128, 8, 128]⟩
abbrev S2x128x8x128 : Shape := ⟨4, ![2, 128, 8, 128]⟩
abbrev S2x128x1x8x6 : Shape := ⟨5, ![2, 128, 1, 8, 6]⟩
abbrev S2x1x128x8x6 : Shape := ⟨5, ![2, 1, 128, 8, 6]⟩
abbrev S2x128x128x8x6 : Shape := ⟨5, ![2, 128, 128, 8, 6]⟩
abbrev S2x8x128x128 : Shape := ⟨4, ![2, 8, 128, 128]⟩
abbrev S2x128x128x8 : Shape := ⟨4, ![2, 128, 128, 8]⟩
abbrev S2x128x128x8x1 : Shape := ⟨5, ![2, 128, 128, 8, 1]⟩
abbrev S2x128x8x6x1 : Shape := ⟨5, ![2, 128, 8, 6, 1]⟩
abbrev S2x1x8x6 : Shape := ⟨4, ![2, 1, 8, 6]⟩
abbrev S2x8x6x1x1 : Shape := ⟨5, ![2, 8, 6, 1, 1]⟩
abbrev S2x8x384x128 : Shape := ⟨4, ![2, 8, 384, 128]⟩

abbrev nBuf : Space → Nat
  | .hbm => 158
  | .vmem => 0
  | .smem => 0
  | _ => 0

abbrev hbmTy0_0 (i : Nat) : BufTy := match i % 128 with
  | 0 => ⟨S16384x5120, .bf16⟩
  | 1 => ⟨S2x8192x2x48, .f32⟩
  | 2 => ⟨S2x48, .f32⟩
  | 3 => ⟨S2x48, .f32⟩
  | 4 => ⟨S2x8x6x64x128, .f32⟩
  | 5 => ⟨S16384x5120, .f32⟩
  | 6 => ⟨S2x8192x5120, .f32⟩
  | 7 => ⟨S2x8192x3072, .f32⟩
  | 8 => ⟨S2x8192x8x6x64, .f32⟩
  | 9 => ⟨S2x8192x1024, .f32⟩
  | 10 => ⟨S2x8192x8x128, .f32⟩
  | 11 => ⟨S2x8192x1024, .f32⟩
  | 12 => ⟨S2x8192x8x128, .f32⟩
  | 13 => ⟨S1x1x2x48, .f32⟩
  | 14 => ⟨S2x8192x2x48, .f32⟩
  | 15 => ⟨S2x8192x2x48, .f32⟩
  | 16 => ⟨S_, .f32⟩
  | 17 => ⟨S2x8192x2x48, .f32⟩
  | 18 => ⟨S2x8192x2x48, .f32⟩
  | 19 => ⟨S2x8192x2x48, .f32⟩
  | 20 => ⟨S2x8192x2x48, .f32⟩
  | 21 => ⟨S2x8192x2x48, .i1⟩
  | 22 => ⟨S2x8192x2x48, .f32⟩
  | 23 => ⟨S2x8192x2x48, .f32⟩
  | 24 => ⟨S2x8192x2x48, .f32⟩
  | 25 => ⟨S2x8192x2x48, .f32⟩
  | 26 => ⟨S2x8192x2x48, .f32⟩
  | 27 => ⟨S2x8192x2x48, .f32⟩
  | 28 => ⟨S2x8192x2x48, .f32⟩
  | 29 => ⟨S2x8192x2x48, .f32⟩
  | 30 => ⟨S2x8192x2x8x6, .f32⟩
  | 31 => ⟨S2x8192x1x8x6, .f32⟩
  | 32 => ⟨S2x8192x8x6, .f32⟩
  | 33 => ⟨S2x48, .f32⟩
  | 34 => ⟨S2x48, .f32⟩
  | 35 => ⟨S2x8x6, .f32⟩
  | 36 => ⟨S1x8x6, .f32⟩
  | 37 => ⟨S8x6, .f32⟩
  | 38 => ⟨S1x1x8x6, .f32⟩
  | 39 => ⟨S2x8192x8x6, .f32⟩
  | 40 => ⟨S2x8192x8x6, .f32⟩
  | 41 => ⟨S2x8192x8x6x1, .f32⟩
  | 42 => ⟨S2x8192x8x6x64, .f32⟩
  | 43 => ⟨S2x8192x8x6x64, .f32⟩
  | 44 => ⟨S_, .i1⟩
  | 45 => ⟨S128x128, .i1⟩
  | 46 => ⟨S128x128, .i32⟩
  | 47 => ⟨S_, .i32⟩
  | 48 => ⟨S128x128, .i32⟩
  | 49 => ⟨S128x128, .i32⟩
  | 50 => ⟨S128x128, .i32⟩
  | 51 => ⟨S128x128, .i1⟩
  | 52 => ⟨S_, .i1⟩
  | 53 => ⟨S128x128, .i1⟩
  | 54 => ⟨S128x128, .i1⟩
  | 55 => ⟨S1x128x128x1x1, .i1⟩
  | 56 => ⟨S2x64x128x8x6x64, .f32⟩
  | 57 => ⟨S64x2x128x8x6x64, .f32⟩
  | 58 => ⟨S2x64x128x8x6, .f32⟩
  | 59 => ⟨S64x2x128x8x6, .f32⟩
  | 60 => ⟨S2x64x128x8x128, .f32⟩
  | 61 => ⟨S64x2x128x8x128, .f32⟩
  | 62 => ⟨S2x64x128x8x128, .f32⟩
  | 63 => ⟨S64x2x128x8x128, .f32⟩
  | 64 => ⟨S_, .f32⟩
  | 65 => ⟨S64x2x128x8x6x64, .f32⟩
  | 66 => ⟨S_, .i32⟩
  | 67 => ⟨S64x2x128x8x6x64, .f32⟩
  | 68 => ⟨S64x2x128x8x6, .f32⟩
  | 69 => ⟨S64x2x128x8x128, .f32⟩
  | 70 => ⟨S64x2x128x8x128, .f32⟩
  | 71 => ⟨S1x128x128x1x1, .i1⟩
  | 72 => ⟨S_, .i32⟩
  | 73 => ⟨S2x8x6x64x128, .f32⟩
  | 74 => ⟨S64x2x128x8x6x64, .f32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S1x2x128x8x6x64, .f32⟩
  | 83 => ⟨S2x128x8x6x64, .f32⟩
  | 84 => ⟨S_, .i32⟩
  | 85 => ⟨S_, .i32⟩
  | 86 => ⟨S_, .i32⟩
  | 87 => ⟨S_, .i32⟩
  | 88 => ⟨S1x2x128x8x6, .f32⟩
  | 89 => ⟨S2x128x8x6, .f32⟩
  | 90 => ⟨S_, .i32⟩
  | 91 => ⟨S_, .i32⟩
  | 92 => ⟨S_, .i32⟩
  | 93 => ⟨S_, .i32⟩
  | 94 => ⟨S1x2x128x8x128, .f32⟩
  | 95 => ⟨S2x128x8x128, .f32⟩
  | 96 => ⟨S_, .i32⟩
  | 97 => ⟨S_, .i32⟩
  | 98 => ⟨S_, .i32⟩
  | 99 => ⟨S_, .i32⟩
  | 100 => ⟨S1x2x128x8x128, .f32⟩
  | 101 => ⟨S2x128x8x128, .f32⟩
  | 102 => ⟨S_, .f32⟩
  | 103 => ⟨S_, .f32⟩
  | 104 => ⟨S2x128x8x6, .f32⟩
  | 105 => ⟨S2x128x1x8x6, .f32⟩
  | 106 => ⟨S2x1x128x8x6, .f32⟩
  | 107 => ⟨S2x128x128x8x6, .f32⟩
  | 108 => ⟨S2x128x128x8x6, .f32⟩
  | 109 => ⟨S2x128x128x8x6, .f32⟩
  | 110 => ⟨S_, .f32⟩
  | 111 => ⟨S_, .f32⟩
  | 112 => ⟨S2x128x128x8x6, .i1⟩
  | 113 => ⟨S2x128x128x8x6, .f32⟩
  | 114 => ⟨S2x128x128x8x6, .f32⟩
  | 115 => ⟨S2x128x128x8x6, .f32⟩
  | 116 => ⟨S2x8x128x128, .f32⟩
  | 117 => ⟨S2x128x128x8, .f32⟩
  | 118 => ⟨S2x128x128x8x1, .f32⟩
  | 119 => ⟨S2x128x128x8x6, .f32⟩
  | 120 => ⟨S2x128x128x8x6, .f32⟩
  | 121 => ⟨S2x8x6x64x128, .f32⟩
  | 122 => ⟨S2x128x8x6x64, .f32⟩
  | 123 => ⟨S2x8x6x64x128, .f32⟩
  | 124 => ⟨S2x128x8x6x64, .f32⟩
  | 125 => ⟨S2x128x8x6, .f32⟩
  | 126 => ⟨S2x128x8x6x1, .f32⟩
  | 127 => ⟨S2x128x8x6x64, .f32⟩
  | _ => ⟨S16384x5120, .bf16⟩

abbrev hbmTy0_1 (i : Nat) : BufTy := match i % 128 with
  | 0 => ⟨S2x128x8x6x64, .f32⟩
  | 1 => ⟨S2x1x8x6, .f32⟩
  | 2 => ⟨S2x128x8x6, .f32⟩
  | 3 => ⟨S2x128x8x6, .f32⟩
  | 4 => ⟨S2x128x8x6, .f32⟩
  | 5 => ⟨S2x1x8x6, .f32⟩
  | 6 => ⟨S2x8x6, .f32⟩
  | 7 => ⟨S2x8x6, .f32⟩
  | 8 => ⟨S2x8x6x1x1, .f32⟩
  | 9 => ⟨S2x8x6x64x128, .f32⟩
  | 10 => ⟨S2x8x6x64x128, .f32⟩
  | 11 => ⟨S2x128x8x6x1, .f32⟩
  | 12 => ⟨S2x128x8x6x64, .f32⟩
  | 13 => ⟨S2x128x8x6x64, .f32⟩
  | 14 => ⟨S2x8x6x64x128, .f32⟩
  | 15 => ⟨S2x8x6x64x128, .f32⟩
  | 16 => ⟨S2x128x8x6x64, .f32⟩
  | 17 => ⟨S1x2x128x8x6x64, .f32⟩
  | 18 => ⟨S_, .i32⟩
  | 19 => ⟨S_, .i32⟩
  | 20 => ⟨S_, .i32⟩
  | 21 => ⟨S_, .i32⟩
  | 22 => ⟨S_, .i32⟩
  | 23 => ⟨S64x2x128x8x6x64, .f32⟩
  | 24 => ⟨S_, .i32⟩
  | 25 => ⟨S_, .i32⟩
  | 26 => ⟨S2x64x128x8x6x64, .f32⟩
  | 27 => ⟨S2x8192x3072, .f32⟩
  | 28 => ⟨S2x8192x3072, .bf16⟩
  | 29 => ⟨S2x8x384x128, .f32⟩
  | _ => ⟨S16384x5120, .bf16⟩

abbrev hbmTy (i : Nat) : BufTy := match i / 128 with
  | 0 => hbmTy0_0 i
  | 1 => hbmTy0_1 i
  | _ => ⟨S16384x5120, .bf16⟩

abbrev bufTy : (tb : Table) → Fin (tcTables nBuf tb) → BufTy
  | .hbm, ⟨i, _⟩ => hbmTy i
  | _, _ => ⟨S16384x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c : Ref sig .tc := ⟨.hbm, 44, rfl⟩
abbrev main_v26 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_0 : Ref sig .tc := ⟨.hbm, 52, rfl⟩
abbrev main_call1_v5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst : Ref sig .tc := ⟨.hbm, 64, rfl⟩
abbrev main_v37 : Ref sig .tc := ⟨.hbm, 65, rfl⟩
abbrev main_c_0 : Ref sig .tc := ⟨.hbm, 66, rfl⟩
abbrev main_v38_0 : Ref sig .tc := ⟨.hbm, 67, rfl⟩
abbrev main_v38_1 : Ref sig .tc := ⟨.hbm, 68, rfl⟩
abbrev main_v38_2 : Ref sig .tc := ⟨.hbm, 69, rfl⟩
abbrev main_v38_3 : Ref sig .tc := ⟨.hbm, 70, rfl⟩
abbrev main_v38_4 : Ref sig .tc := ⟨.hbm, 71, rfl⟩
abbrev main_v38_5 : Ref sig .tc := ⟨.hbm, 72, rfl⟩
abbrev main_v38_6 : Ref sig .tc := ⟨.hbm, 73, rfl⟩
abbrev main_v38_7 : Ref sig .tc := ⟨.hbm, 74, rfl⟩
abbrev main_while0c_c_8 : Ref sig .tc := ⟨.hbm, 75, rfl⟩
abbrev main_while0c_v43 : Ref sig .tc := ⟨.hbm, 76, rfl⟩
abbrev main_while0b_call2_c : Ref sig .tc := ⟨.hbm, 77, rfl⟩
abbrev main_while0b_call2_c_0 : Ref sig .tc := ⟨.hbm, 78, rfl⟩
abbrev main_while0b_call2_c_1 : Ref sig .tc := ⟨.hbm, 79, rfl⟩
abbrev main_while0b_call2_c_2 : Ref sig .tc := ⟨.hbm, 80, rfl⟩
abbrev main_while0b_call2_c_3 : Ref sig .tc := ⟨.hbm, 81, rfl⟩
abbrev main_while0b_call2_v0 : Ref sig .tc := ⟨.hbm, 82, rfl⟩
abbrev main_while0b_v43 : Ref sig .tc := ⟨.hbm, 83, rfl⟩
abbrev main_while0b_call3_c : Ref sig .tc := ⟨.hbm, 84, rfl⟩
abbrev main_while0b_call3_c_0 : Ref sig .tc := ⟨.hbm, 85, rfl⟩
abbrev main_while0b_call3_c_1 : Ref sig .tc := ⟨.hbm, 86, rfl⟩
abbrev main_while0b_call3_c_2 : Ref sig .tc := ⟨.hbm, 87, rfl⟩
abbrev main_while0b_call3_v0 : Ref sig .tc := ⟨.hbm, 88, rfl⟩
abbrev main_while0b_v44 : Ref sig .tc := ⟨.hbm, 89, rfl⟩
abbrev main_while0b_call4_c : Ref sig .tc := ⟨.hbm, 90, rfl⟩
abbrev main_while0b_call4_c_0 : Ref sig .tc := ⟨.hbm, 91, rfl⟩
abbrev main_while0b_call4_c_1 : Ref sig .tc := ⟨.hbm, 92, rfl⟩
abbrev main_while0b_call4_c_2 : Ref sig .tc := ⟨.hbm, 93, rfl⟩
abbrev main_while0b_call4_v0 : Ref sig .tc := ⟨.hbm, 94, rfl⟩
abbrev main_while0b_v45 : Ref sig .tc := ⟨.hbm, 95, rfl⟩
abbrev main_while0b_call5_c : Ref sig .tc := ⟨.hbm, 96, rfl⟩
abbrev main_while0b_call5_c_0 : Ref sig .tc := ⟨.hbm, 97, rfl⟩
abbrev main_while0b_call5_c_1 : Ref sig .tc := ⟨.hbm, 98, rfl⟩
abbrev main_while0b_call5_c_2 : Ref sig .tc := ⟨.hbm, 99, rfl⟩
abbrev main_while0b_call5_v0 : Ref sig .tc := ⟨.hbm, 100, rfl⟩
abbrev main_while0b_v46 : Ref sig .tc := ⟨.hbm, 101, rfl⟩
abbrev main_while0b_call6_call0_cst : Ref sig .tc := ⟨.hbm, 102, rfl⟩
abbrev main_while0b_call6_call0_v0 : Ref sig .tc := ⟨.hbm, 103, rfl⟩
abbrev main_while0b_v47 : Ref sig .tc := ⟨.hbm, 104, rfl⟩
abbrev main_while0b_v48 : Ref sig .tc := ⟨.hbm, 105, rfl⟩
abbrev main_while0b_v49 : Ref sig .tc := ⟨.hbm, 106, rfl⟩
abbrev main_while0b_v50 : Ref sig .tc := ⟨.hbm, 107, rfl⟩
abbrev main_while0b_v51 : Ref sig .tc := ⟨.hbm, 108, rfl⟩
abbrev main_while0b_v52 : Ref sig .tc := ⟨.hbm, 109, rfl⟩
abbrev main_while0b_cst_8 : Ref sig .tc := ⟨.hbm, 110, rfl⟩
abbrev main_while0b_call7_v0 : Ref sig .tc := ⟨.hbm, 111, rfl⟩
abbrev main_while0b_call7_v1 : Ref sig .tc := ⟨.hbm, 112, rfl⟩
abbrev main_while0b_call7_v2 : Ref sig .tc := ⟨.hbm, 113, rfl⟩
abbrev main_while0b_v53 : Ref sig .tc := ⟨.hbm, 114, rfl⟩
abbrev main_while0b_v54 : Ref sig .tc := ⟨.hbm, 115, rfl⟩
abbrev main_while0b_v55 : Ref sig .tc := ⟨.hbm, 116, rfl⟩
abbrev main_while0b_v56 : Ref sig .tc := ⟨.hbm, 117, rfl⟩
abbrev main_while0b_v57 : Ref sig .tc := ⟨.hbm, 118, rfl⟩
abbrev main_while0b_v58 : Ref sig .tc := ⟨.hbm, 119, rfl⟩
abbrev main_while0b_v59 : Ref sig .tc := ⟨.hbm, 120, rfl⟩
abbrev main_while0b_v60 : Ref sig .tc := ⟨.hbm, 121, rfl⟩
abbrev main_while0b_v61 : Ref sig .tc := ⟨.hbm, 122, rfl⟩
abbrev main_while0b_v62 : Ref sig .tc := ⟨.hbm, 123, rfl⟩
abbrev main_while0b_v63 : Ref sig .tc := ⟨.hbm, 124, rfl⟩
abbrev main_while0b_v64 : Ref sig .tc := ⟨.hbm, 125, rfl⟩
abbrev main_while0b_v65 : Ref sig .tc := ⟨.hbm, 126, rfl⟩
abbrev main_while0b_v66 : Ref sig .tc := ⟨.hbm, 127, rfl⟩
abbrev main_while0b_v67 : Ref sig .tc := ⟨.hbm, 128, rfl⟩
abbrev main_while0b_v68 : Ref sig .tc := ⟨.hbm, 129, rfl⟩
abbrev main_while0b_v69 : Ref sig .tc := ⟨.hbm, 130, rfl⟩
abbrev main_while0b_v70 : Ref sig .tc := ⟨.hbm, 131, rfl⟩
abbrev main_while0b_v71 : Ref sig .tc := ⟨.hbm, 132, rfl⟩
abbrev main_while0b_v72 : Ref sig .tc := ⟨.hbm, 133, rfl⟩
abbrev main_while0b_v73 : Ref sig .tc := ⟨.hbm, 134, rfl⟩
abbrev main_while0b_v74 : Ref sig .tc := ⟨.hbm, 135, rfl⟩
abbrev main_while0b_v75 : Ref sig .tc := ⟨.hbm, 136, rfl⟩
abbrev main_while0b_v76 : Ref sig .tc := ⟨.hbm, 137, rfl⟩
abbrev main_while0b_v77 : Ref sig .tc := ⟨.hbm, 138, rfl⟩
abbrev main_while0b_v78 : Ref sig .tc := ⟨.hbm, 139, rfl⟩
abbrev main_while0b_v79 : Ref sig .tc := ⟨.hbm, 140, rfl⟩
abbrev main_while0b_v80 : Ref sig .tc := ⟨.hbm, 141, rfl⟩
abbrev main_while0b_v81 : Ref sig .tc := ⟨.hbm, 142, rfl⟩
abbrev main_while0b_v82 : Ref sig .tc := ⟨.hbm, 143, rfl⟩
abbrev main_while0b_v83 : Ref sig .tc := ⟨.hbm, 144, rfl⟩
abbrev main_while0b_call8_v0 : Ref sig .tc := ⟨.hbm, 145, rfl⟩
abbrev main_while0b_call8_c : Ref sig .tc := ⟨.hbm, 146, rfl⟩
abbrev main_while0b_call8_c_0 : Ref sig .tc := ⟨.hbm, 147, rfl⟩
abbrev main_while0b_call8_c_1 : Ref sig .tc := ⟨.hbm, 148, rfl⟩
abbrev main_while0b_call8_c_2 : Ref sig .tc := ⟨.hbm, 149, rfl⟩
abbrev main_while0b_call8_c_3 : Ref sig .tc := ⟨.hbm, 150, rfl⟩
abbrev main_while0b_v84 : Ref sig .tc := ⟨.hbm, 151, rfl⟩
abbrev main_while0b_c_9 : Ref sig .tc := ⟨.hbm, 152, rfl⟩
abbrev main_while0b_v85 : Ref sig .tc := ⟨.hbm, 153, rfl⟩
abbrev main_v39 : Ref sig .tc := ⟨.hbm, 154, rfl⟩
abbrev main_v40 : Ref sig .tc := ⟨.hbm, 155, rfl⟩
abbrev main_v41 : Ref sig .tc := ⟨.hbm, 156, rfl⟩
abbrev main_v42 : Ref sig .tc := ⟨.hbm, 157, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S16384x4096 : Shape := ⟨2, ![16384, 4096]⟩
abbrev S4096x11008 : Shape := ⟨2, ![4096, 11008]⟩
abbrev S_ : Shape := ⟨0, ![]⟩
abbrev S4096x11264 : Shape := ⟨2, ![4096, 11264]⟩
abbrev S22x16384x512 : Shape := ⟨3, ![22, 16384, 512]⟩
abbrev S1024x4096 : Shape := ⟨2, ![1024, 4096]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 13
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x11008, .f32⟩
  | .hbm, ⟨2, _⟩ => ⟨S4096x11008, .f32⟩
  | .hbm, ⟨3, _⟩ => ⟨S_, .i32⟩
  | .hbm, ⟨4, _⟩ => ⟨S_, .f32⟩
  | .hbm, ⟨5, _⟩ => ⟨S4096x11264, .f32⟩
  | .hbm, ⟨6, _⟩ => ⟨S4096x11264, .bf16⟩
  | .hbm, ⟨7, _⟩ => ⟨S_, .i32⟩
  | .hbm, ⟨8, _⟩ => ⟨S_, .f32⟩
  | .hbm, ⟨9, _⟩ => ⟨S4096x11264, .f32⟩
  | .hbm, ⟨10, _⟩ => ⟨S4096x11264, .bf16⟩
  | .hbm, ⟨11, _⟩ => ⟨S22x16384x512, .bf16⟩
  | .hbm, ⟨12, _⟩ => ⟨S22x16384x512, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16384x4096 : Shape := ⟨2, ![16384, 4096]⟩
abbrev S4096x11008 : Shape := ⟨2, ![4096, 11008]⟩
abbrev S16384x11008 : Shape := ⟨2, ![16384, 11008]⟩
abbrev S_ : Shape := ⟨0, ![]⟩
abbrev S16384x11264 : Shape := ⟨2, ![16384, 11264]⟩
abbrev S16384x22x512 : Shape := ⟨3, ![16384, 22, 512]⟩
abbrev S22x16384x512 : Shape := ⟨3, ![22, 16384, 512]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11008, .f32⟩
  | .hbm, ⟨2, _⟩ => ⟨S4096x11008, .f32⟩
  | .hbm, ⟨3, _⟩ => ⟨S16384x4096, .f32⟩
  | .hbm, ⟨4, _⟩ => ⟨S16384x11008, .f32⟩
  | .hbm, ⟨5, _⟩ => ⟨S_, .i32⟩
  | .hbm, ⟨6, _⟩ => ⟨S_, .f32⟩
  | .hbm, ⟨7, _⟩ => ⟨S16384x11264, .f32⟩
  | .hbm, ⟨8, _⟩ => ⟨S16384x22x512, .f32⟩
  | .hbm, ⟨9, _⟩ => ⟨S22x16384x512, .f32⟩
  | .hbm, ⟨10, _⟩ => ⟨S22x16384x512, .bf16⟩
  | .hbm, ⟨11, _⟩ => ⟨S16384x11008, .f32⟩
  | .hbm, ⟨12, _⟩ => ⟨S_, .i32⟩
  | .hbm, ⟨13, _⟩ => ⟨S_, .f32⟩
  | .hbm, ⟨14, _⟩ => ⟨S16384x11264, .f32⟩
  | .hbm, ⟨15, _⟩ => ⟨S16384x22x512, .f32⟩
  | .hbm, ⟨16, _⟩ => ⟨S22x16384x512, .f32⟩
  | .hbm, ⟨17, _⟩ => ⟨S22x16384x512, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Kernel3.lean ====
abbrev S16384x4096 : Shape := ⟨2, ![16384, 4096]⟩
abbrev S4096x9312 : Shape := ⟨2, ![4096, 9312]⟩
abbrev S9312x4096 : Shape := ⟨2, ![9312, 4096]⟩
abbrev S8288x4096 : Shape := ⟨2, ![8288, 4096]⟩
abbrev S_ : Shape := ⟨0, ![]⟩
abbrev S8448x4096 : Shape := ⟨2, ![8448, 4096]⟩
abbrev S16384x8448 : Shape := ⟨2, ![16384, 8448]⟩
abbrev S1024x4096 : Shape := ⟨2, ![1024, 4096]⟩
abbrev S768x4096 : Shape := ⟨2, ![768, 4096]⟩
abbrev S1024x768 : Shape := ⟨2, ![1024, 768]⟩

abbrev nBuf : Space → Nat
  | .hbm => 9
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x9312, .f32⟩
  | .hbm, ⟨2, _⟩ => ⟨S9312x4096, .f32⟩
  | .hbm, ⟨3, _⟩ => ⟨S8288x4096, .f32⟩
  | .hbm, ⟨4, _⟩ => ⟨S_, .i32⟩
  | .hbm, ⟨5, _⟩ => ⟨S_, .f32⟩
  | .hbm, ⟨6, _⟩ => ⟨S8448x4096, .f32⟩
  | .hbm, ⟨7, _⟩ => ⟨S8448x4096, .bf16⟩
  | .hbm, ⟨8, _⟩ => ⟨S16384x8448, .f32⟩
  | .local _ .vmem, ⟨0, _⟩ => ⟨S1024x4096, .bf16⟩
  | .local _ .vmem, ⟨1, _⟩ => ⟨S1024x4096, .bf16⟩
  | .local _ .vmem, ⟨2, _⟩ => ⟨S768x4096, .bf16⟩
  | .local _ .vmem, ⟨3, _⟩ => ⟨S768x4096, .bf16⟩
  | .local _ .vmem, ⟨4, _⟩ => ⟨S1024x768, .f32⟩
  | .local _ .vmem, ⟨5, _⟩ => ⟨S1024x768, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x4096 : Shape := ⟨2, ![16384, 4096]⟩
abbrev S4096x9312 : Shape := ⟨2, ![4096, 9312]⟩
abbrev S4096x8288 : Shape := ⟨2, ![4096, 8288]⟩
abbrev S16384x8288 : Shape := ⟨2, ![16384, 8288]⟩
abbrev S_ : Shape := ⟨0, ![]⟩
abbrev S16384x8448 : Shape := ⟨2, ![16384, 8448]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x9312, .f32⟩
  | .hbm, ⟨2, _⟩ => ⟨S16384x4096, .f32⟩
  | .hbm, ⟨3, _⟩ => ⟨S4096x8288, .f32⟩
  | .hbm, ⟨4, _⟩ => ⟨S16384x8288, .f32⟩
  | .hbm, ⟨5, _⟩ => ⟨S_, .i32⟩
  | .hbm, ⟨6, _⟩ => ⟨S_, .f32⟩
  | .hbm, ⟨7, _⟩ => ⟨S16384x8448, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel4.lean ====
abbrev S2x8192x4096 : Shape := ⟨3, ![2, 8192, 4096]⟩
abbrev S2x8192x1024 : Shape := ⟨3, ![2, 8192, 1024]⟩
abbrev S2x8192x3072 : Shape := ⟨3, ![2, 8192, 3072]⟩
abbrev S2x4096 : Shape := ⟨2, ![2, 4096]⟩
abbrev S4096x4096 : Shape := ⟨2, ![4096, 4096]⟩
abbrev S16384x1024 : Shape := ⟨2, ![16384, 1024]⟩
abbrev S16384x3072 : Shape := ⟨2, ![16384, 3072]⟩
abbrev S16384x4096 : Shape := ⟨2, ![16384, 4096]⟩
abbrev S2x1x4096 : Shape := ⟨3, ![2, 1, 4096]⟩
abbrev S1024x1024 : Shape := ⟨2, ![1024, 1024]⟩
abbrev S1024x3072 : Shape := ⟨2, ![1024, 3072]⟩
abbrev S4096x1024 : Shape := ⟨2, ![4096, 1024]⟩
abbrev S1x1x1024 : Shape := ⟨3, ![1, 1, 1024]⟩
abbrev S3072x1024 : Shape := ⟨2, ![3072, 1024]⟩
abbrev S1x1024 : Shape := ⟨2, ![1, 1024]⟩

abbrev nBuf : Space → Nat
  | .hbm => 11
  | .vmem => 12
  | .smem => 0
  | _ => 0

abbrev bufTy : (tb : Table) → Fin (tcTables nBuf tb) → BufTy
  | .hbm, ⟨0, _⟩ => ⟨S2x8192x4096, .f32⟩
  | .hbm, ⟨1, _⟩ => ⟨S2x8192x1024, .bf16⟩
  | .hbm, ⟨2, _⟩ => ⟨S2x8192x3072, .bf16⟩
  | .hbm, ⟨3, _⟩ => ⟨S2x4096, .f32⟩
  | .hbm, ⟨4, _⟩ => ⟨S4096x4096, .f32⟩
  | .hbm, ⟨5, _⟩ => ⟨S16384x1024, .bf16⟩
  | .hbm, ⟨6, _⟩ => ⟨S16384x3072, .bf16⟩
  | .hbm, ⟨7, _⟩ => ⟨S4096x4096, .bf16⟩
  | .hbm, ⟨8, _⟩ => ⟨S16384x4096, .f32⟩
  | .hbm, ⟨9, _⟩ => ⟨S2x1x4096, .f32⟩
  | .hbm, ⟨10, _⟩ => ⟨S16384x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S4096x1024, .bf16⟩
  | .local _ .vmem, ⟨5, _⟩ => ⟨S4096x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x1024, .f32⟩
  | .local _ .vmem, ⟨11, _⟩ => ⟨S1024x1024, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S2x8192x4096 : Shape := ⟨3, ![2, 8192, 4096]⟩
abbrev S2x8192x1024 : Shape := ⟨3, ![2, 8192, 1024]⟩
abbrev S2x8192x3072 : Shape := ⟨3, ![2, 8192, 3072]⟩
abbrev S2x4096 : Shape := ⟨2, ![2, 4096]⟩
abbrev S4096x4096 : Shape := ⟨2, ![4096, 4096]⟩
abbrev S2x1x4096 : Shape := ⟨3, ![2, 1, 4096]⟩
abbrev S16384x4096 : Shape := ⟨2, ![16384, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x8192x1024, .bf16⟩
  | .hbm, ⟨2, _⟩ => ⟨S2x8192x3072, .bf16⟩
  | .hbm, ⟨3, _⟩ => ⟨S2x4096, .f32⟩
  | .hbm, ⟨4, _⟩ => ⟨S4096x4096, .f32⟩
  | .hbm, ⟨5, _⟩ => ⟨S2x8192x1024, .f32⟩
  | .hbm, ⟨6, _⟩ => ⟨S2x8192x3072, .f32⟩
  | .hbm, ⟨7, _⟩ => ⟨S2x8192x4096, .f32⟩
  | .hbm, ⟨8, _⟩ => ⟨S2x1x4096, .f32⟩
  | .hbm, ⟨9, _⟩ => ⟨S2x8192x4096, .f32⟩
  | .hbm, ⟨10, _⟩ => ⟨S2x8192x4096, .f32⟩
  | .hbm, ⟨11, _⟩ => ⟨S2x8192x4096, .f32⟩
  | .hbm, ⟨12, _⟩ => ⟨S2x8192x4096, .f32⟩
  | .hbm, ⟨13, _⟩ => ⟨S16384x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S16384x4096 : Shape := ⟨2, ![16384, 4096]⟩
abbrev S4096x9312 : Shape := ⟨2, ![4096, 9312]⟩
abbrev S9312x4096 : Shape := ⟨2, ![9312, 4096]⟩
abbrev S1024x4096 : Shape := ⟨2, ![1024, 4096]⟩
abbrev S16384x1024 : Shape := ⟨2, ![16384, 1024]⟩
abbrev S512x4096 : Shape := ⟨2, ![512, 4096]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x9312, .f32⟩
  | .hbm, ⟨2, _⟩ => ⟨S9312x4096, .f32⟩
  | .hbm, ⟨3, _⟩ => ⟨S1024x4096, .f32⟩
  | .hbm, ⟨4, _⟩ => ⟨S1024x4096, .bf16⟩
  | .hbm, ⟨5, _⟩ => ⟨S16384x1024, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16384x4096 : Shape := ⟨2, ![16384, 4096]⟩
abbrev S4096x9312 : Shape := ⟨2, ![4096, 9312]⟩
abbrev S4096x1024 : Shape := ⟨2, ![4096, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x9312, .f32⟩
  | .hbm, ⟨2, _⟩ => ⟨S16384x4096, .f32⟩
  | .hbm, ⟨3, _⟩ => ⟨S4096x1024, .f32⟩
  | .hbm, ⟨4, _⟩ => ⟨S16384x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Cum.lean ====
/- The running sum along the tokens of a chunk, the kernel's and the reference's printed forms read at an index as one fold. -/
module

public import proofs.«01_k».proof.KernelIdeal
public import proofs.«01_k».proof.ReferenceIdeal
public import Idealize.ShloMosaic.Lib.Pointwise

@[expose] public section

set_option maxRecDepth 16384

noncomputable section

namespace Cert.Scan

open Idealize.ShloMosaic Idealize.ShloMosaic.TcCoe

/-- The sum of `f` over the tokens up to `l`, in the order that the host adds them. -/
def pre (f : Fin 128 → EReal) (l : Fin 128) : EReal :=
  (List.finRange 128).foldl (fun r n => r + if h : 127 ≤ l.val + n.val then f ⟨l.val + n.val - 127, by omega⟩ else 0) 0

theorem foldl_cast {β : Type} {N M : ℕ} (h : N = M) (F : β → Fin N → β) (v : β) :
    (List.finRange N).foldl F v = (List.finRange M).foldl (fun r n => F r (n.cast h.symm)) v := by
  subst h; rfl

theorem numel_w3 : (⟨3, ![1, 128, 1]⟩ : Shape).numel = 128 := by decide
theorem numel_w4 : (⟨4, ![1, 128, 1, 1]⟩ : Shape).numel = 128 := by decide

theorem symm_w3 (n : Fin 128) : (⟨3, ![1, 128, 1]⟩ : Shape).rowMajor.symm (n.cast numel_w3.symm) = ix3 (0 : Fin 1) n (0 : Fin 1) :=
  (Equiv.symm_apply_eq _).2 (Fin.ext (by
    rw [Shape.rowMajor_val_three]
    show n.val = (0 * 128 + n.val) * 1 + 0
    omega))

theorem symm_w4 (n : Fin 128) : (⟨4, ![1, 128, 1, 1]⟩ : Shape).rowMajor.symm (n.cast numel_w4.symm) = ix4 (0 : Fin 1) n (0 : Fin 1) (0 : Fin 1) :=
  (Equiv.symm_apply_eq _).2 (Fin.ext (by
    rw [Shape.rowMajor_val_four]
    show n.val = ((0 * 128 + n.val) * 1 + 0) * 1 + 0
    omega))

/-- The kernel's running sum. -/
theorem cum3 (x : Vec Ideal Cert.KernelIdeal.S128x128x128 .f32) (z : Vec Ideal Cert.KernelIdeal.S_ .f32) (hz : ∀ i, z i = (0 : EReal))
    (h : Cert.KernelIdeal.S128x128x128.ReduceWindows (![1, 128, 1] : Fin 3 → Nat) ![1, 1, 1] ![0, 127, 0] ![0, 0, 0] Cert.KernelIdeal.S128x128x128)
    (hu : 0 < Cert.KernelIdeal.S_.numel) (g l k : Fin 128) :
    Host.reduceWindowAdd (F := Ideal) (φ := .f32) ![1, 128, 1] ![1, 1, 1] ![0, 127, 0] ![0, 0, 0] x z h hu (ix3 g l k) = pre (fun l' => x (ix3 g l' k)) l := by
  have hl := l.isLt
  show Host.reduceWindow (fun a b : EReal => a + b) ![1, 128, 1] ![1, 1, 1] ![0, 127, 0] ![0, 0, 0] x z h hu (ix3 g l k) = _
  unfold Host.reduceWindow pre
  dsimp only
  rw [hz, foldl_cast numel_w3]
  congr 1
  funext r n
  have hw : ∀ a, ((⟨3, ![1, 128, 1]⟩ : Shape).rowMajor.symm (n.cast numel_w3.symm) a).val = (ix3 (0 : Fin 1) n (0 : Fin 1) a).val := fun a => by rw [symm_w3]
  have hw0 : ((⟨3, ![1, 128, 1]⟩ : Shape).rowMajor.symm (n.cast numel_w3.symm) ⟨0, by decide⟩).val = 0 := hw ⟨0, by decide⟩
  have hw1 : ((⟨3, ![1, 128, 1]⟩ : Shape).rowMajor.symm (n.cast numel_w3.symm) ⟨1, by decide⟩).val = n.val := hw ⟨1, by decide⟩
  have hw2 : ((⟨3, ![1, 128, 1]⟩ : Shape).rowMajor.symm (n.cast numel_w3.symm) ⟨2, by decide⟩).val = 0 := hw ⟨2, by decide⟩
  congr 1
  by_cases hn : 127 ≤ l.val + n.val
  · rw [dif_pos hn]
    refine (dif_pos fun a => ?_).trans (congrArg x (funext fun a => Fin.ext ?_))
    · match a with
      | ⟨0, _⟩ => show 0 ≤ g.val * 1 + ((⟨3, ![1, 128, 1]⟩ : Shape).rowMajor.symm (n.cast numel_w3.symm) ⟨0, by decide⟩).val ∧ g.val * 1 + ((⟨3, ![1, 128, 1]⟩ : Shape).rowMajor.symm (n.cast numel_w3.symm) ⟨0, by decide⟩).val - 0 < 128; rw [hw0]; omega
      | ⟨1, _⟩ => show 127 ≤ l.val * 1 + ((⟨3, ![1, 128, 1]⟩ : Shape).rowMajor.symm (n.cast numel_w3.symm) ⟨1, by decide⟩).val ∧ l.val * 1 + ((⟨3, ![1, 128, 1]⟩ : Shape).rowMajor.symm (n.cast numel_w3.symm) ⟨1, by decide⟩).val - 127 < 128; rw [hw1]; omega
      | ⟨2, _⟩ => show 0 ≤ k.val * 1 + ((⟨3, ![1, 128, 1]⟩ : Shape).rowMajor.symm (n.cast numel_w3.symm) ⟨2, by decide⟩).val ∧ k.val * 1 + ((⟨3, ![1, 128, 1]⟩ : Shape).rowMajor.symm (n.cast numel_w3.symm) ⟨2, by decide⟩).val - 0 < 128; rw [hw2]; omega
    · match a with
      | ⟨0, _⟩ => show g.val * 1 + ((⟨3, ![1, 128, 1]⟩ : Shape).rowMajor.symm (n.cast numel_w3.symm) ⟨0, by decide⟩).val - 0 = g.val; rw [hw0]; omega
      | ⟨1, _⟩ => show l.val * 1 + ((⟨3, ![1, 128, 1]⟩ : Shape).rowMajor.symm (n.cast numel_w3.symm) ⟨1, by decide⟩).val - 127 = l.val + n.val - 127; rw [hw1]; omega
      | ⟨2, _⟩ => show k.val * 1 + ((⟨3, ![1, 128, 1]⟩ : Shape).rowMajor.symm (n.cast numel_w3.symm) ⟨2, by decide⟩).val - 0 = k.val; rw [hw2]; omega
  · rw [dif_neg hn]
    refine dif_neg fun hin => hn ?_
    have h1 := hin (1 : Fin 3)
    change 127 ≤ l.val * 1 + ((⟨3, ![1, 128, 1]⟩ : Shape).rowMajor.symm (n.cast numel_w3.symm) ⟨1, by decide⟩).val ∧ l.val * 1 + ((⟨3, ![1, 128, 1]⟩ : Shape).rowMajor.symm (n.cast numel_w3.symm) ⟨1, by decide⟩).val - 127 < 128 at h1
    rw [hw1] at h1
    omega

/-- The reference's. -/
theorem cum4 (x : Vec Ideal Cert.ReferenceIdeal.S2x128x8x6 .f32) (z : Vec Ideal Cert.ReferenceIdeal.S_ .f32) (hz : ∀ i, z i = (0 : EReal))
    (h : Cert.ReferenceIdeal.S2x128x8x6.ReduceWindows (![1, 128, 1, 1] : Fin 4 → Nat) ![1, 1, 1, 1] ![0, 127, 0, 0] ![0, 0, 0, 0] Cert.ReferenceIdeal.S2x128x8x6)
    (hu : 0 < Cert.ReferenceIdeal.S_.numel) (b : Fin 2) (l : Fin 128) (g : Fin 8) (r : Fin 6) :
    Host.reduceWindowAdd (F := Ideal) (φ := .f32) ![1, 128, 1, 1] ![1, 1, 1, 1] ![0, 127, 0, 0] ![0, 0, 0, 0] x z h hu (ix4 b l g r) = pre (fun l' => x (ix4 b l' g r)) l := by
  have hl := l.isLt
  show Host.reduceWindow (fun a b : EReal => a + b) ![1, 128, 1, 1] ![1, 1, 1, 1] ![0, 127, 0, 0] ![0, 0, 0, 0] x z h hu (ix4 b l g r) = _
  unfold Host.reduceWindow pre
  dsimp only
  rw [hz, foldl_cast numel_w4]
  congr 1
  funext v n
  have hw : ∀ a, ((⟨4, ![1, 128, 1, 1]⟩ : Shape).rowMajor.symm (n.cast numel_w4.symm) a).val = (ix4 (0 : Fin 1) n (0 : Fin 1) (0 : Fin 1) a).val := fun a => by rw [symm_w4]
  have hw0 : ((⟨4, ![1, 128, 1, 1]⟩ : Shape).rowMajor.symm (n.cast numel_w4.symm) ⟨0, by decide⟩).val = 0 := hw ⟨0, by decide⟩
  have hw1 : ((⟨4, ![1, 128, 1, 1]⟩ : Shape).rowMajor.symm (n.cast numel_w4.symm) ⟨1, by decide⟩).val = n.val := hw ⟨1, by decide⟩
  have hw2 : ((⟨4, ![1, 128, 1, 1]⟩ : Shape).rowMajor.symm (n.cast numel_w4.symm) ⟨2, by decide⟩).val = 0 := hw ⟨2, by decide⟩
  have hw3 : ((⟨4, ![1, 128, 1, 1]⟩ : Shape).rowMajor.symm (n.cast numel_w4.symm) ⟨3, by decide⟩).val = 0 := hw ⟨3, by decide⟩
  congr 1
  by_cases hn : 127 ≤ l.val + n.val
  · rw [dif_pos hn]
    refine (dif_pos fun a => ?_).trans (congrArg x (funext fun a => Fin.ext ?_))
    · match a with
      | ⟨0, _⟩ => show 0 ≤ b.val * 1 + ((⟨4, ![1, 128, 1, 1]⟩ : Shape).rowMajor.symm (n.cast numel_w4.symm) ⟨0, by decide⟩).val ∧ b.val * 1 + ((⟨4, ![1, 128, 1, 1]⟩ : Shape).rowMajor.symm (n.cast numel_w4.symm) ⟨0, by decide⟩).val - 0 < 2; rw [hw0]; omega
      | ⟨1, _⟩ => show 127 ≤ l.val * 1 + ((⟨4, ![1, 128, 1, 1]⟩ : Shape).rowMajor.symm (n.cast numel_w4.symm) ⟨1, by decide⟩).val ∧ l.val * 1 + ((⟨4, ![1, 128, 1, 1]⟩ : Shape).rowMajor.symm (n.cast numel_w4.symm) ⟨1, by decide⟩).val - 127 < 128; rw [hw1]; omega
      | ⟨2, _⟩ => show 0 ≤ g.val * 1 + ((⟨4, ![1, 128, 1, 1]⟩ : Shape).rowMajor.symm (n.cast numel_w4.symm) ⟨2, by decide⟩).val ∧ g.val * 1 + ((⟨4, ![1, 128, 1, 1]⟩ : Shape).rowMajor.symm (n.cast numel_w4.symm) ⟨2, by decide⟩).val - 0 < 8; rw [hw2]; omega
      | ⟨3, _⟩ => show 0 ≤ r.val * 1 + ((⟨4, ![1, 128, 1, 1]⟩ : Shape).rowMajor.symm (n.cast numel_w4.symm) ⟨3, by decide⟩).val ∧ r.val * 1 + ((⟨4, ![1, 128, 1, 1]⟩ : Shape).rowMajor.symm (n.cast numel_w4.symm) ⟨3, by decide⟩).val - 0 < 6; rw [hw3]; omega
    · match a with
      | ⟨0, _⟩ => show b.val * 1 + ((⟨4, ![1, 128, 1, 1]⟩ : Shape).rowMajor.symm (n.cast numel_w4.symm) ⟨0, by decide⟩).val - 0 = b.val; rw [hw0]; omega
      | ⟨1, _⟩ => show l.val * 1 + ((⟨4, ![1, 128, 1, 1]⟩ : Shape).rowMajor.symm (n.cast numel_w4.symm) ⟨1, by decide⟩).val - 127 = l.val + n.val - 127; rw [hw1]; omega
      | ⟨2, _⟩ => show g.val * 1 + ((⟨4, ![1, 128, 1, 1]⟩ : Shape).rowMajor.symm (n.cast numel_w4.symm) ⟨2, by decide⟩).val - 0 = g.val; rw [hw2]; omega
      | ⟨3, _⟩ => show r.val * 1 + ((⟨4, ![1, 128, 1, 1]⟩ : Shape).rowMajor.symm (n.cast numel_w4.symm) ⟨3, by decide⟩).val - 0 = r.val; rw [hw3]; omega
  · rw [dif_neg hn]
    refine dif_neg fun hin => hn ?_
    have h1 := hin (1 : Fin 4)
    change 127 ≤ l.val * 1 + ((⟨4, ![1, 128, 1, 1]⟩ : Shape).rowMajor.symm (n.cast numel_w4.symm) ⟨1, by decide⟩).val ∧ l.val * 1 + ((⟨4, ![1, 128, 1, 1]⟩ : Shape).rowMajor.symm (n.cast numel_w4.symm) ⟨1, by decide⟩).val - 127 < 128 at h1
    rw [hw1] at h1
    omega
-- ==== Proof.Spec.lean ====
/- The scan over the extended reals, element by element: what both programs compute. -/
module

public import proofs.«01_k».proof.Proof.Cum

@[expose] public section

set_option maxRecDepth 16384

noncomputable section

namespace Cert.Scan

open Cert.KernelIdeal Idealize.ShloMosaic Idealize.ShloMosaic.TcCoe

/-- The exponent where the column comes after the row. -/
abbrev low : EReal := Ideal.ofBits FTy.f32 0xFF800000#32

/-- The program's arguments. -/
structure Args where
  act : Vec Ideal S16384x5120 .bf16
  raw : Vec Ideal S2x8192x2x48 .f32
  bias : Vec Ideal S2x48 .f32
  alog : Vec Ideal S2x48 .f32
  h0 : Vec Ideal S2x8x6x64x128 .f32

variable (A : Args)

/-- Sequence `b`, chunk `s`, token `l` of the chunk: its row of the activations. -/
abbrev row (b : Fin 2) (s : Fin 64) (l : Fin 128) : Fin 16384 := ⟨8192 * b.val + (128 * s.val + l.val), by omega⟩
/-- Chunk `s`, token `l`: the token's number in its sequence. -/
abbrev tok (s : Fin 64) (l : Fin 128) : Fin 8192 := ⟨128 * s.val + l.val, by omega⟩

def sX (s : Fin 64) (b : Fin 2) (l : Fin 128) (e : Fin 3072) : EReal := A.act (ix2 (row b s l) ⟨e.val, by omega⟩)
def sB (s : Fin 64) (b : Fin 2) (l : Fin 128) (f : Fin 1024) : EReal := A.act (ix2 (row b s l) ⟨3072 + f.val, by omega⟩)
def sC (s : Fin 64) (b : Fin 2) (l : Fin 128) (f : Fin 1024) : EReal := A.act (ix2 (row b s l) ⟨4096 + f.val, by omega⟩)

/-- The step size before the softplus, -/
def sV (s : Fin 64) (b : Fin 2) (l : Fin 128) (k : Fin 48) : EReal := A.raw (ix4 b (tok s l) 0 k) + A.bias (ix2 0 k)
/-- the step size of head `k`, -/
def sDt (s : Fin 64) (b : Fin 2) (l : Fin 128) (k : Fin 48) : EReal :=
  max (sV A s b l k) 0 + Ideal.log1p (Ideal.exp (-(FloatOps.absf (F := Ideal) (φ := .f32) (sV A s b l k) : EReal)))
/-- its logarithm of the decay, -/
def sDa (s : Fin 64) (b : Fin 2) (l : Fin 128) (k : Fin 48) : EReal := sDt A s b l k * -Ideal.exp (A.alog (ix2 0 k))
/-- and that summed from the chunk's first token on. -/
def sCu (s : Fin 64) (b : Fin 2) (l : Fin 128) (k : Fin 48) : EReal := pre (fun l' => sDa A s b l' k) l

/-- What a chunk's result is, from the state that the chunk finds. -/
def sY (s : Fin 64) (h : Vec Ideal S2x8x384x128 .f32) (b : Fin 2) (l : Fin 128) (e : Fin 3072) : EReal :=
  (∑ s' : Fin 128, (∑ n : Fin 128, sC A s b l ⟨128 * (e.val / 384) + n.val, by omega⟩ * sB A s b s' ⟨128 * (e.val / 384) + n.val, by omega⟩)
      * Ideal.exp (if s'.val ≤ l.val then sCu A s b l ⟨e.val / 64, by omega⟩ - sCu A s b s' ⟨e.val / 64, by omega⟩ else low)
      * sDt A s b s' ⟨e.val / 64, by omega⟩ * sX A s b s' e)
  + (∑ n : Fin 128, sC A s b l ⟨128 * (e.val / 384) + n.val, by omega⟩ * h (ix4 b ⟨e.val / 384, by omega⟩ ⟨e.val % 384, by omega⟩ n))
    * Ideal.exp (sCu A s b l ⟨e.val / 64, by omega⟩)

/-- What a chunk makes of the state. -/
def sH (s : Fin 64) (h : Vec Ideal S2x8x384x128 .f32) (b : Fin 2) (g : Fin 8) (r : Fin 384) (n : Fin 128) : EReal :=
  h (ix4 b g r n) * Ideal.exp (sCu A s b 127 ⟨6 * g.val + r.val / 64, by omega⟩)
  + ∑ s' : Fin 128, sX A s b s' ⟨384 * g.val + r.val, by omega⟩
      * (sDt A s b s' ⟨6 * g.val + r.val / 64, by omega⟩
          * Ideal.exp (sCu A s b 127 ⟨6 * g.val + r.val / 64, by omega⟩ - sCu A s b s' ⟨6 * g.val + r.val / 64, by omega⟩))
      * sB A s b s' ⟨128 * g.val + n.val, by omega⟩

/-- The state that chunk `n` finds. -/
def sSt (n : ℕ) : Vec Ideal S2x8x384x128 .f32 :=
  Nat.rec (motive := fun _ => Vec Ideal S2x8x384x128 .f32)
    (fun i => A.h0 (ix5 (i 0) (i 1) ⟨(i 2).val / 64, by have : (i 2).val < 384 := (i 2).isLt; omega⟩ ⟨(i 2).val % 64, by omega⟩ (i 3)))
    (fun n h => if hn : n < 64 then fun i => sH A ⟨n, hn⟩ h (i 0) (i 1) (i 2) (i 3) else h) n

theorem sSt_succ (s : Fin 64) : sSt A (s.val + 1) = fun i => sH A s (sSt A s.val) (i 0) (i 1) (i 2) (i 3) := dif_pos s.isLt

end Cert.Scan
-- ==== Proof.Host.lean ====
/- The arrays that the host prepares for the grid, at an index. -/
module

public import proofs.«01_k».proof.Proof.Spec
public import proofs.«01_k».proof.Proof.Gen.KernelIdeal.Frame
public import Idealize.ShloMosaic.Lib.WordCmp
public import Idealize.ShloMosaic.Lib.StableHlo.ReadAt

@[expose] public section

set_option maxRecDepth 16384

noncomputable section

namespace Cert.Scan

open Cert.KernelIdeal Cert.KernelIdeal.Gen Idealize.ShloMosaic Idealize.ShloMosaic.TcCoe

variable (m : (ℓ : Loc nD τ sig) → Buf (Elt Ideal) ℓ)

/-- Core `c`'s arguments. -/
def args (c : Dev nD) : Args where
  act := m ((c : Thread nD τ).loc main_arg0)
  raw := m ((c : Thread nD τ).loc main_arg1)
  bias := m ((c : Thread nD τ).loc main_arg2)
  alog := m ((c : Thread nD τ).loc main_arg3)
  h0 := m ((c : Thread nD τ).loc main_arg4)

/-- An array that the region finds, as extended reals. -/
abbrev arr (c : Dev nD) (b : Ref sig .tc) : b.ty.shape.Idx → Elt Ideal b.ty.elt := V (F := Ideal) m c b

abbrev blkOf (b : Fin 2) (s : Fin 64) : Fin 128 := ⟨64 * b.val + s.val, by omega⟩
abbrev lane (k : Fin 48) : Fin 128 := ⟨k.val, by omega⟩

theorem sel_lt (k : Fin 48) (N : ℕ) (hN : 48 ≤ N) (hN2 : N ≤ 128) (a b : EReal) :
    Scalar.select (IntOp.cmpi .slt (BitVec.ofNat 32 k.val) (BitVec.ofNat 32 N)) a b = a := by
  rw [WordCmp.cmpi_slt_ofNat (by have := k.isLt; omega) (by omega)]
  have := k.isLt
  simp [Scalar.select, show k.val < N by omega]

theorem v48_at (c : Dev nD) (b : Fin 2) (t : Fin 8192) (e : Fin 5120) :
    (V (F := Ideal) m c main_v48 : Vec Ideal S2x8192x5120 .bf16) (ix3 b t e) = (args m c).act (ix2 ⟨8192 * b.val + t.val, by omega⟩ e) := by
  unfold V
  after_reads_at
  exact congrArg (args m c).act (congrArg (ix2 · e) (Fin.ext (by dsimp only; omega)))

theorem v47_at (c : Dev nD) (b : Fin 2) (g : Fin 8) (r : Fin 384) (n : Fin 128) :
    (V (F := Ideal) m c main_v47 : Vec Ideal S2x8x384x128 .f32) (ix4 b g r n) = (args m c).h0 (ix5 b g ⟨r.val / 64, by omega⟩ ⟨r.val % 64, by omega⟩ n) := by
  unfold V
  after_reads_at
  rfl

theorem v1_at (c : Dev nD) (t : Fin 16384) (k : Fin 48) :
    (V (F := Ideal) m c main_v1 : Vec Ideal S16384x128 .f32) (ix2 t (lane k)) = (args m c).raw (ix4 ⟨t.val / 8192, by omega⟩ ⟨t.val % 8192, by omega⟩ ⟨k.val / 48, by omega⟩ ⟨k.val % 48, by omega⟩) := by
  have hk := k.isLt
  unfold V
  after_reads_at
  exact dif_pos (by omega)

theorem v3_at (c : Dev nD) (k : Fin 48) :
    (V (F := Ideal) m c main_v3 : Vec Ideal S1x128 .f32) (ix2 0 (lane k)) = (args m c).bias (ix2 ⟨k.val / 48, by omega⟩ ⟨k.val % 48, by omega⟩) := by
  have hk := k.isLt
  unfold V
  after_reads_at
  exact dif_pos (by omega)

theorem v10_eq (c : Dev nD) : (V (F := Ideal) m c main_v10 : Vec Ideal S128x128x128 .f32)
    = shapeCast S128x128x128 (addf (F := Ideal) (φ := .f32) (V (F := Ideal) m c main_v1 : Vec Ideal S16384x128 .f32)
        (broadcastInDim S16384x128 ![0, 1] bcast_S1x128_S16384x128_0_1 (V (F := Ideal) m c main_v3 : Vec Ideal S1x128 .f32))) shapeCasts_S16384x128_S128x128x128 := by
  unfold V
  after_reads_simp
  rfl

theorem sum_at (X : Vec Ideal S16384x128 .f32) (Y : Vec Ideal S1x128 .f32) (u l q : Fin 128) :
    shapeCast S128x128x128 (addf (F := Ideal) (φ := .f32) X (broadcastInDim S16384x128 ![0, 1] bcast_S1x128_S16384x128_0_1 Y)) shapeCasts_S16384x128_S128x128x128 (ix3 u l q)
      = @HAdd.hAdd EReal EReal EReal instHAdd (X (ix2 ⟨u.val * 128 + l.val, by omega⟩ q)) (Y (ix2 0 q)) := by
  pointwise

theorem v10_at (c : Dev nD) (b : Fin 2) (s : Fin 64) (l : Fin 128) (k : Fin 48) :
    (V (F := Ideal) m c main_v10 : Vec Ideal S128x128x128 .f32) (ix3 (blkOf b s) l (lane k)) = sV (args m c) s b l k := by
  have hk := k.isLt
  have hb := b.isLt
  have hs := s.isLt
  have hl := l.isLt
  have e : (V (F := Ideal) m c main_v10 : Vec Ideal S128x128x128 .f32) (ix3 (blkOf b s) l (lane k))
      = @HAdd.hAdd EReal EReal EReal instHAdd ((V (F := Ideal) m c main_v1 : Vec Ideal S16384x128 .f32) (ix2 ⟨(64 * b.val + s.val) * 128 + l.val, by omega⟩ (lane k)))
          ((V (F := Ideal) m c main_v3 : Vec Ideal S1x128 .f32) (ix2 0 (lane k))) := by
    rw [v10_eq]
    exact sum_at _ _ (blkOf b s) l (lane k)
  rw [e, v1_at m, v3_at m]
  unfold sV
  have q0 : (⟨((64 * b.val + s.val) * 128 + l.val) / 8192, by omega⟩ : Fin 2) = b := Fin.ext (by dsimp only; omega)
  have q1 : (⟨((64 * b.val + s.val) * 128 + l.val) % 8192, by omega⟩ : Fin 8192) = tok s l := Fin.ext (by dsimp only; omega)
  have q2 : (⟨k.val / 48, by omega⟩ : Fin 2) = 0 := Fin.ext (by show k.val / 48 = 0; omega)
  have q3 : (⟨k.val % 48, by omega⟩ : Fin 48) = k := Fin.ext (by dsimp only; omega)
  rw [q0, q1, q2, q3]

theorem v20_at (c : Dev nD) (b : Fin 2) (s : Fin 64) (l : Fin 128) (k : Fin 48) :
    (V (F := Ideal) m c main_v20 : Vec Ideal S128x128x128 .f32) (ix3 (blkOf b s) l (lane k)) = sDt (args m c) s b l k := by
  have e1 : (V (F := Ideal) m c main_v20 : Vec Ideal S128x128x128 .f32)
      = select (V (F := Ideal) m c main_v19 : IVec S128x128x128 1) (V (F := Ideal) m c main_v17 : Vec Ideal S128x128x128 .f32) (V (F := Ideal) m c main_call3_v1 : Vec Ideal S128x128x128 .f32) := by
    unfold V
    after_reads_simp
    simp -implicitDefEqProofs only [StableHlo.TRef.toBuf, StableHlo.TRef.ofBuf, cast_cast, cast_eq]
  have e2 : (V (F := Ideal) m c main_v19 : IVec S128x128x128 1) (ix3 (blkOf b s) l (lane k)) = IntOp.cmpi .slt (BitVec.ofNat 32 k.val) (BitVec.ofNat 32 96) := by
    unfold V
    after_reads_at
  have e3 : (V (F := Ideal) m c main_v17 : Vec Ideal S128x128x128 .f32)
      = addf (F := Ideal) (φ := .f32) (maximumf (F := Ideal) (φ := .f32) (V (F := Ideal) m c main_v10 : Vec Ideal S128x128x128 .f32) (broadcastInDim S128x128x128 ![] bcast_S_S128x128x128 (constant (F := Ideal) S_ .f32 0x00000000#32)))
          (Host.log1p (F := Ideal) (φ := .f32) (Host.exp (F := Ideal) (φ := .f32) (Host.negf (F := Ideal) (φ := .f32) (Host.absf (F := Ideal) (φ := .f32) (V (F := Ideal) m c main_v10 : Vec Ideal S128x128x128 .f32))))) := by
    unfold V
    after_reads_simp
  rw [e1]
  show Scalar.select ((V (F := Ideal) m c main_v19 : IVec S128x128x128 1) (ix3 (blkOf b s) l (lane k))) _ _ = _
  rw [e2]
  refine (sel_lt k 96 (by decide) (by decide) _ _).trans ?_
  rw [e3]
  unfold sDt
  rw [← v10_at m]
  pointwise

theorem v25_at (c : Dev nD) (b : Fin 2) (s : Fin 64) (l : Fin 128) (k : Fin 48) :
    (V (F := Ideal) m c main_v25 : Vec Ideal S128x128x128 .f32) (ix3 (blkOf b s) l (lane k)) = sDa (args m c) s b l k := by
  have hk := k.isLt
  have e1 : (V (F := Ideal) m c main_v25 : Vec Ideal S128x128x128 .f32)
      = mulf (F := Ideal) (φ := .f32) (V (F := Ideal) m c main_v20 : Vec Ideal S128x128x128 .f32) (broadcastInDim S128x128x128 ![0, 1, 2] bcast_S1x1x128_S128x128x128_0_1_2 (V (F := Ideal) m c main_v23 : Vec Ideal S1x1x128 .f32)) := by
    unfold V
    after_reads_simp
  have e2 : (V (F := Ideal) m c main_v23 : Vec Ideal S1x1x128 .f32) (ix3 0 0 (lane k)) = -Ideal.exp ((args m c).alog (ix2 0 k)) := by
    unfold V
    after_reads_at
    rw [dif_pos (by omega)]
    refine congrArg (fun x : EReal => -Ideal.exp x) (congrArg (args m c).alog ?_)
    congr 1 <;> exact Fin.ext (by dsimp only; omega)
  rw [e1]
  unfold sDa
  rw [← v20_at m, ← e2]
  pointwise

theorem v26_at (c : Dev nD) (b : Fin 2) (s : Fin 64) (l : Fin 128) (k : Fin 48) :
    (V (F := Ideal) m c main_v26 : Vec Ideal S128x128x128 .f32) (ix3 (blkOf b s) l (lane k)) = sCu (args m c) s b l k := by
  have e1 : (V (F := Ideal) m c main_v26 : Vec Ideal S128x128x128 .f32) = Host.reduceWindowAdd (F := Ideal) (φ := .f32) ![1, 128, 1] ![1, 1, 1] ![0, 127, 0] ![0, 0, 0]
      (V (F := Ideal) m c main_v25 : Vec Ideal S128x128x128 .f32) (broadcastInDim S_ ![] bcast_S_S_ (constant (F := Ideal) S_ .f32 0x00000000#32)) reduceWindows_S128x128x128_S128x128x128_w1s1p0_0_w128s1p127_0_w1s1p0_0 h_S_ := by
    unfold V
    after_reads_simp
    simp -implicitDefEqProofs only [StableHlo.TRef.toBuf, StableHlo.TRef.ofBuf, cast_cast, cast_eq]
  rw [e1]
  refine (cum3 _ _ (fun i => ?_) _ _ (blkOf b s) l (lane k)).trans ?_
  · pointwise
  · exact congrArg (pre · l) (funext fun l' => v25_at m c b s l' k)

theorem v30_at (c : Dev nD) (b : Fin 2) (s : Fin 64) (l : Fin 128) (k : Fin 48) :
    (V (F := Ideal) m c main_v30 : Vec Ideal S128x128x128 .f32) (ix3 (blkOf b s) l (lane k)) = sCu (args m c) s b l k := by
  have e1 : (V (F := Ideal) m c main_v30 : Vec Ideal S128x128x128 .f32)
      = select (V (F := Ideal) m c main_v29 : IVec S128x128x128 1) (V (F := Ideal) m c main_v26 : Vec Ideal S128x128x128 .f32) (V (F := Ideal) m c main_v27 : Vec Ideal S128x128x128 .f32) := by
    unfold V
    after_reads_simp
    simp -implicitDefEqProofs only [StableHlo.TRef.toBuf, StableHlo.TRef.ofBuf, cast_cast, cast_eq]
  have e2 : (V (F := Ideal) m c main_v29 : IVec S128x128x128 1) (ix3 (blkOf b s) l (lane k)) = IntOp.cmpi .slt (BitVec.ofNat 32 k.val) (BitVec.ofNat 32 48) := by
    unfold V
    after_reads_at
  rw [e1, ← v26_at m]
  show Scalar.select ((V (F := Ideal) m c main_v29 : IVec S128x128x128 1) (ix3 (blkOf b s) l (lane k))) _ _ = _
  rw [e2]
  exact sel_lt k 48 (by decide) (by decide) _ _

theorem v39_at (c : Dev nD) (b : Fin 2) (s : Fin 64) (l : Fin 128) (k : Fin 48) :
    (V (F := Ideal) m c main_v39 : Vec Ideal S128x128x128 .f32) (ix3 (blkOf b s) l (lane k))
      = sDt (args m c) s b l k * Ideal.exp (sCu (args m c) s b 127 k - sCu (args m c) s b l k) := by
  have e0 : (V (F := Ideal) m c main_v35 : Vec Ideal S128x1x128 .f32)
      = select (V (F := Ideal) m c main_v32 : IVec S128x1x128 1)
          (extractStridedSlice S128x1x128 ![0, 127, 0] (V (F := Ideal) m c main_v30 : Vec Ideal S128x128x128 .f32) slices_S128x128x128_S128x1x128_0_127_0)
          (extractStridedSlice S128x1x128 ![0, 0, 0] (V (F := Ideal) m c main_v30 : Vec Ideal S128x128x128 .f32) slices_S128x128x128_S128x1x128_0_0_0) := by
    unfold V
    after_reads_simp
    simp -implicitDefEqProofs only [StableHlo.TRef.toBuf, StableHlo.TRef.ofBuf, cast_cast, cast_eq]
  have e1 : (V (F := Ideal) m c main_v39 : Vec Ideal S128x128x128 .f32)
      = mulf (F := Ideal) (φ := .f32) (V (F := Ideal) m c main_v20 : Vec Ideal S128x128x128 .f32) (Host.exp (F := Ideal) (φ := .f32) (subf (broadcastInDim S128x128x128 ![0, 1, 2] bcast_S128x1x128_S128x128x128_0_1_2 (V (F := Ideal) m c main_v35 : Vec Ideal S128x1x128 .f32))
          (V (F := Ideal) m c main_v30 : Vec Ideal S128x128x128 .f32))) := by
    unfold V
    after_reads_simp
  have e2 : (V (F := Ideal) m c main_v32 : IVec S128x1x128 1) (ix3 (blkOf b s) 0 (lane k)) = IntOp.cmpi .slt (BitVec.ofNat 32 k.val) (BitVec.ofNat 32 48) := by
    unfold V
    after_reads_at
  have e3 : (V (F := Ideal) m c main_v35 : Vec Ideal S128x1x128 .f32) (ix3 (blkOf b s) 0 (lane k)) = sCu (args m c) s b 127 k := by
    rw [e0, ← v30_at m]
    show Scalar.select ((V (F := Ideal) m c main_v32 : IVec S128x1x128 1) (ix3 (blkOf b s) 0 (lane k))) _ _ = _
    rw [e2]
    refine (sel_lt k 48 (by decide) (by decide) _ _).trans ?_
    pointwise
  rw [e1, ← v20_at m, ← e3, ← v30_at m]
  pointwise
-- ==== Proof.Block.lean ====
/- One grid point's work on one pair of heads, as a function of the blocks it loads. -/
module

public import proofs.«01_k».proof.Proof.Gen.KernelIdeal
public import Idealize.ShloMosaic.Lib.Pointwise

@[expose] public section

set_option maxRecDepth 16384

noncomputable section

namespace Cert.Scan

open Cert.KernelIdeal Cert.KernelIdeal.Gen Idealize.ShloMosaic

variable {F : FTy → Type} [FloatOps F]

/-- Where the row is at or after the column. -/
def tri : IVec S128x128 1 :=
  cmpi .sge (iota .tc S128x128 32 [0] iota_S128x128_d0_w32) (iota .tc S128x128 32 [1] iota_S128x128_d1_w32)

/-- Where the column is among the first 64. -/
def left : IVec S128x128 1 :=
  cmpi .slt (iota .tc S128x128 32 [1] iota_S128x128_d1_w32) (broadcast S128x128 64#32)

theorem sl_col {k : ℕ} (hk : k < 128) : S128x128.Slices ![0, k] S128x1 :=
  ⟨rfl, fun a => by match a with
    | ⟨0, _⟩ => show 0 + 128 ≤ 128; omega
    | ⟨1, _⟩ => show k + 1 ≤ 128; omega⟩

theorem sl_one {k : ℕ} (hk : k < 128) : S1x128.Slices ![0, k] S1x1 :=
  ⟨rfl, fun a => by match a with
    | ⟨0, _⟩ => show 0 + 1 ≤ 1; omega
    | ⟨1, _⟩ => show k + 1 ≤ 128; omega⟩

theorem sl_wide {o : ℕ} (ho : o + 128 ≤ 384) : S128x384.Slices ![0, o] S128x128 :=
  ⟨rfl, fun a => by match a with
    | ⟨0, _⟩ => show 0 + 128 ≤ 128; omega
    | ⟨1, _⟩ => show o + 128 ≤ 384; omega⟩

theorem sl_tall {o : ℕ} (ho : o + 128 ≤ 384) : S384x128.Slices ![o, 0] S128x128 :=
  ⟨rfl, fun a => by match a with
    | ⟨0, _⟩ => show o + 128 ≤ 384; omega
    | ⟨1, _⟩ => show 0 + 128 ≤ 128; omega⟩

/-- Column `k` of a square block, under every column. -/
def colOf (k : ℕ) (hk : k < 128) (a : FVec F S128x128 .f32) : FVec F S128x128 .f32 :=
  broadcastTo S128x128 (shapeCast S128x1 (extractStridedSlice S128x1 ![0, k] a (sl_col hk)) shapeCasts_S128x1_S128x1)
    broadcasts_S128x1_S128x128

/-- A row under every row. -/
def rowOf (r : Vec F S1x1x128 .f32) : FVec F S128x128 .f32 :=
  broadcastTo S128x128 (shapeCast S1x128 r shapeCasts_S1x1x128_S1x128) broadcasts_S1x128_S128x128

/-- The products of the chunk's rows. -/
def dots (cg bg : Vec F S1x128x128 .bf16) : FVec F S128x128 .f32 :=
  matmul dot_S128x128_S128x128_S128x128_1_1_0_0_n_n none (shapeCast S128x128 cg shapeCasts_S1x128x128_S128x128)
    (shapeCast S128x128 bg shapeCasts_S1x128x128_S128x128) (constant S128x128 .f32 0x00000000#32)

/-- What the carried state gives the chunk's rows, before its decay. -/
def carried (cg : Vec F S1x128x128 .bf16) (h : Vec F S1x1x384x128 .f32) : FVec F S128x384 .f32 :=
  matmul dot_S128x128_S384x128_S128x384_1_1_0_0_n_n none (shapeCast S128x128 cg shapeCasts_S1x128x128_S128x128)
    (truncf .bf16 (shapeCast S384x128 h shapeCasts_S1x1x384x128_S384x128) bitsLt_bf16_f32) (constant S128x384 .f32 0x00000000#32)

/-- One head's part from inside the chunk. -/
def inside (k : ℕ) (hk : k < 128) (acol : Vec F S1x128x128 .f32) (cb : FVec F S128x128 .f32) (xp : Vec F S1x128x128 .bf16)
    (ra rd : Vec F S1x1x128 .f32) : FVec F S128x128 .f32 :=
  matmul dot_S128x128_S128x128_S128x128_1_0_0_1_n_n none
    (truncf .bf16 (mulf (mulf cb (exp (select tri
        (subf (colOf k hk (shapeCast S128x128 acol shapeCasts_S1x128x128_S128x128)) (rowOf ra))
        (broadcast S128x128 (Scalar.ofBits .f32 0xFF800000#32))))) (rowOf rd)) bitsLt_bf16_f32)
    (shapeCast S128x128 xp shapeCasts_S1x128x128_S128x128) (constant S128x128 .f32 0x00000000#32)

/-- The result block of a pair of heads. -/
def pairY (k o : ℕ) (hk : k + 1 < 128) (ho : o + 128 ≤ 384) (acol : Vec F S1x128x128 .f32) (bg cg : Vec F S1x128x128 .bf16)
    (h : Vec F S1x1x384x128 .f32) (xp : Vec F S1x128x128 .bf16) (a0 d0 a1 d1 : Vec F S1x1x128 .f32) : FVec F S1x128x128 .bf16 :=
  shapeCast S1x128x128 (truncf .bf16 (addf
      (select left (inside k (by omega) acol (dots cg bg) xp a0 d0) (inside (k + 1) hk acol (dots cg bg) xp a1 d1))
      (mulf (extractStridedSlice S128x128 ![0, o] (carried cg h) (sl_wide ho))
        (exp (select left (colOf k (by omega) (shapeCast S128x128 acol shapeCasts_S1x128x128_S128x128))
          (colOf (k + 1) hk (shapeCast S128x128 acol shapeCasts_S1x128x128_S128x128)))))) bitsLt_bf16_f32)
    shapeCasts_S128x128_S1x128x128

/-- The last row's exponentials. -/
def endRow (acol : Vec F S1x128x128 .f32) : FVec F S1x128 .f32 :=
  exp (extractStridedSlice S1x128 ![127, 0] (shapeCast S128x128 acol shapeCasts_S1x128x128_S128x128) slices_S128x128_o127_0_S1x128)

/-- A head's row of weights under its 64 rows. -/
def wRow (w : Vec F S1x1x128 .f32) : FVec F S64x128 .f32 :=
  broadcastTo S64x128 (shapeCast S1x128 (shapeCast S1x128 w shapeCasts_S1x1x128_S1x128) shapeCasts_S1x128_S1x128) broadcasts_S1x128_S64x128

/-- A head's decay over the chunk at its 64 rows. -/
def eRow (k : ℕ) (hk : k < 128) (e : FVec F S1x128 .f32) : FVec F S64x128 .f32 :=
  broadcastTo S64x128 (shapeCast S1x1 (extractStridedSlice S1x1 ![0, k] e (sl_one hk)) shapeCasts_S1x1_S1x1) broadcasts_S1x1_S64x128

/-- The state block of a pair of heads after the chunk. -/
def pairH (k o : ℕ) (hk : k + 1 < 128) (ho : o + 128 ≤ 384) (acol : Vec F S1x128x128 .f32) (bg : Vec F S1x128x128 .bf16)
    (h : Vec F S1x1x384x128 .f32) (xp : Vec F S1x128x128 .bf16) (w0 w1 : Vec F S1x1x128 .f32) : FVec F S1x1x128x128 .f32 :=
  shapeCast S1x1x128x128 (addf
      (mulf (extractStridedSlice S128x128 ![o, 0] (shapeCast S384x128 h shapeCasts_S1x1x384x128_S384x128) (sl_tall ho))
        (concatenate S128x128 0 [⟨S64x128, eRow k (by omega) (endRow acol)⟩, ⟨S64x128, eRow (k + 1) hk (endRow acol)⟩]
          concatenates_S64x128_S64x128_S128x128_d0))
      (matmul dot_S128x128_S128x128_S128x128_1_0_0_1_n_n none
        (truncf .bf16 (mulf
          (transpose S128x128 [1, 0] (extf .f32 (shapeCast S128x128 xp shapeCasts_S1x128x128_S128x128) bitsLt_bf16_f32) transposes_S128x128_p1_0_S128x128)
          (concatenate S128x128 0 [⟨S64x128, wRow w0⟩, ⟨S64x128, wRow w1⟩] concatenates_S64x128_S64x128_S128x128_d0)) bitsLt_bf16_f32)
        (shapeCast S128x128 bg shapeCasts_S1x128x128_S128x128) (constant S128x128 .f32 0x00000000#32)))
    shapeCasts_S128x128_S1x1x128x128

end Cert.Scan
-- ==== Proof.Pieces.lean ====
/- What one grid point stores, as a list of pieces in one formula. -/
module

public import proofs.«01_k».proof.Proof.Block
public import Idealize.ShloMosaic.Lib.Pipeline.ValueKit

@[expose] public section

set_option maxRecDepth 16384

noncomputable section

namespace Cert.Scan

open Cert.KernelIdeal Cert.KernelIdeal.Gen Idealize.ShloMosaic Idealize.ShloMosaic.TcCoe

variable {F : FTy → Type} [FloatOps F]

theorem inb3 {s t : Fin 3 → ℕ} {o : Fin 3 → ℕ} (h0 : o 0 + t 0 ≤ s 0) (h1 : o 1 + t 1 ≤ s 1) (h2 : o 2 + t 2 ≤ s 2) :
    ∀ a, o a + t a ≤ s a := fun a => by
  match a with
  | ⟨0, _⟩ => exact h0
  | ⟨1, _⟩ => exact h1
  | ⟨2, _⟩ => exact h2

theorem inb4 {s t : Fin 4 → ℕ} {o : Fin 4 → ℕ} (h0 : o 0 + t 0 ≤ s 0) (h1 : o 1 + t 1 ≤ s 1) (h2 : o 2 + t 2 ≤ s 2)
    (h3 : o 3 + t 3 ≤ s 3) : ∀ a, o a + t a ≤ s a := fun a => by
  match a with
  | ⟨0, _⟩ => exact h0
  | ⟨1, _⟩ => exact h1
  | ⟨2, _⟩ => exact h2
  | ⟨3, _⟩ => exact h3

variable (b : ℕ) (hb : b < 2) (g : ℕ) (hg : g < 8) (p : ℕ) (hp : p < 3)

include hb in
theorem inbBatch : ∀ a, (![b, 0, 0] : Fin 3 → ℕ) a + S1x128x128.size a ≤ S2x128x128.size a :=
  inb3 (show b + 1 ≤ 2 by omega) (show 0 + 128 ≤ 128 by omega) (show 0 + 128 ≤ 128 by omega)

include hb hg in
theorem inbGroup : ∀ a, (![b, 0, 128 * g] : Fin 3 → ℕ) a + S1x128x128.size a ≤ S2x128x1024.size a :=
  inb3 (show b + 1 ≤ 2 by omega) (show 0 + 128 ≤ 128 by omega) (show 128 * g + 128 ≤ 1024 by omega)

include hb hg hp in
theorem inbPair : ∀ a, (![b, 0, 384 * g + 128 * p] : Fin 3 → ℕ) a + S1x128x128.size a ≤ S2x128x3072.size a :=
  inb3 (show b + 1 ≤ 2 by omega) (show 0 + 128 ≤ 128 by omega) (show 384 * g + 128 * p + 128 ≤ 3072 by omega)

include hb hg in
theorem inbState : ∀ a, (![b, g, 0, 0] : Fin 4 → ℕ) a + S1x1x384x128.size a ≤ S2x8x384x128.size a :=
  inb4 (show b + 1 ≤ 2 by omega) (show g + 1 ≤ 8 by omega) (show 0 + 384 ≤ 384 by omega) (show 0 + 128 ≤ 128 by omega)

include hb hg hp in
theorem inbStatePair : ∀ a, (![b, g, 128 * p, 0] : Fin 4 → ℕ) a + S1x1x128x128.size a ≤ S2x8x384x128.size a :=
  inb4 (show b + 1 ≤ 2 by omega) (show g + 1 ≤ 8 by omega) (show 128 * p + 128 ≤ 384 by omega) (show 0 + 128 ≤ 128 by omega)

include hb in
theorem inbHead {k : ℕ} (hk : k < 128) : ∀ a, (![b, k, 0] : Fin 3 → ℕ) a + S1x1x128.size a ≤ S2x128x128.size a :=
  inb3 (show b + 1 ≤ 2 by omega) (show k + 1 ≤ 128 by omega) (show 0 + 128 ≤ 128 by omega)

/-- The batch, group and pair that the `n`-th step of a grid point works on. -/
abbrev nb (n : Fin 48) : ℕ := n.val % 2
abbrev ng (n : Fin 48) : ℕ := n.val / 6
abbrev np (n : Fin 48) : ℕ := n.val / 2 % 3

theorem nb_lt (n : Fin 48) : nb n < 2 := by have := n.isLt; unfold nb; omega
theorem ng_lt (n : Fin 48) : ng n < 8 := by have := n.isLt; unfold ng; omega
theorem np_lt (n : Fin 48) : np n < 3 := by have := n.isLt; unfold np; omega

/-- The carried state's block of the step. -/
abbrev hRect (n : Fin 48) : Rect S2x8x384x128 :=
  Rect.unit ![nb n, ng n, 0, 0] S1x1x384x128.size (inbState _ (nb_lt n) _ (ng_lt n))

variable (arg1 : Memref sig .tc .vmem S2x128x3072 .bf16) (harg1 : arg1.IsWhole)
  (arg2 : Memref sig .tc .vmem S2x128x1024 .bf16) (harg2 : arg2.IsWhole)
  (arg3 : Memref sig .tc .vmem S2x128x1024 .bf16) (harg3 : arg3.IsWhole)
  (arg4 : Memref sig .tc .vmem S2x128x128 .f32) (harg4 : arg4.IsWhole)
  (arg5 : Memref sig .tc .vmem S2x128x128 .f32) (harg5 : arg5.IsWhole)
  (arg6 : Memref sig .tc .vmem S2x128x128 .f32) (harg6 : arg6.IsWhole)
  (arg7 : Memref sig .tc .vmem S2x128x128 .f32) (harg7 : arg7.IsWhole)
  (x0 : Vec F S2x128x3072 .bf16) (x1 x2 : Vec F S2x128x1024 .bf16) (x3 x4 x5 x6 : Vec F S2x128x128 .f32)

/-- The steps' other blocks: the pair's values, the group's, the batch's, a head's row, and the pair's state. -/
abbrev xRect (n : Fin 48) : Rect S2x128x3072 :=
  Rect.unit ![nb n, 0, 384 * ng n + 128 * np n] S1x128x128.size (inbPair _ (nb_lt n) _ (ng_lt n) _ (np_lt n))
abbrev gRect (n : Fin 48) : Rect S2x128x1024 :=
  Rect.unit ![nb n, 0, 128 * ng n] S1x128x128.size (inbGroup _ (nb_lt n) _ (ng_lt n))
abbrev aRect (n : Fin 48) : Rect S2x128x128 :=
  Rect.unit ![nb n, 0, 0] S1x128x128.size (inbBatch _ (nb_lt n))
abbrev rRect (n : Fin 48) (k : ℕ) (hk : k < 128) : Rect S2x128x128 :=
  Rect.unit ![nb n, k, 0] S1x1x128.size (inbHead _ (nb_lt n) hk)
abbrev hpRect (n : Fin 48) : Rect S2x8x384x128 :=
  Rect.unit ![nb n, ng n, 128 * np n, 0] S1x1x128x128.size (inbStatePair _ (nb_lt n) _ (ng_lt n) _ (np_lt n))

/-- A step's block of the values. -/
abbrev ldX (n : Fin 48) : Vec F S1x128x128 .bf16 :=
  View.readAt (Elt F) arg1.view (xRect n).toLoadRect
    (harg1.unread x0)

/-- A step's block of one of the two grouped arrays. -/
abbrev ldG (n : Fin 48) : Vec F S1x128x128 .bf16 :=
  View.readAt (Elt F) arg2.view (gRect n).toLoadRect (harg2.unread x1)

/-- A step's square of decays. -/
abbrev ldA (n : Fin 48) : Vec F S1x128x128 .f32 :=
  View.readAt (Elt F) arg5.view (aRect n).toLoadRect (harg5.unread x4)

/-- A head's row of a step. -/
abbrev ldR (n : Fin 48) (k : ℕ) (hk : k < 128) : Vec F S1x1x128 .f32 :=
  View.readAt (Elt F) arg4.view (rRect n k hk).toLoadRect (harg4.unread x3)

/-- The first head of a step's pair. -/
abbrev nk (n : Fin 48) : ℕ := 6 * ng n + 2 * np n

theorem nk_lt (n : Fin 48) : nk n + 1 < 128 := by have := ng_lt n; have := np_lt n; unfold nk; omega
theorem no_le (n : Fin 48) : 128 * np n + 128 ≤ 384 := by have := np_lt n; omega

/-- The result's piece of a step. -/
def yP (n : Fin 48) (h : Vec F S1x1x384x128 .f32) : View.Piece (Elt F) S2x128x3072 .bf16 :=
  ⟨xRect n,
    pairY (nk n) (128 * np n) (nk_lt n) (no_le n) (ldA arg5 harg5 x4 n) (ldG arg2 harg2 x1 n) (ldG arg3 harg3 x2 n) h
      (ldX arg1 harg1 x0 n) (ldR arg6 harg6 x5 n (nk n) (Nat.lt_of_succ_lt (nk_lt n))) (ldR arg4 harg4 x3 n (nk n) (Nat.lt_of_succ_lt (nk_lt n)))
      (ldR arg6 harg6 x5 n (nk n + 1) (nk_lt n)) (ldR arg4 harg4 x3 n (nk n + 1) (nk_lt n))⟩

/-- The state's piece of a step. -/
def hP (n : Fin 48) (h : Vec F S1x1x384x128 .f32) : View.Piece (Elt F) S2x8x384x128 .f32 :=
  ⟨hpRect n,
    pairH (nk n) (128 * np n) (nk_lt n) (no_le n) (ldA arg5 harg5 x4 n) (ldG arg2 harg2 x1 n) h (ldX arg1 harg1 x0 n)
      (ldR arg7 harg7 x6 n (nk n) (Nat.lt_of_succ_lt (nk_lt n))) (ldR arg7 harg7 x6 n (nk n + 1) (nk_lt n))⟩

/-- The steps, last first. -/
def steps : List (Fin 48) :=
  [47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]

/-- A list of the steps' pieces, each over its own block, when the blocks depend on the batch and the group alone. -/
theorem steps_map {V α : Type} (Y : Fin 48 → V → α) (z : Fin 48 → V) (hz : ∀ n m, nb n = nb m → ng n = ng m → z n = z m)
    (h00 h10 h01 h11 h02 h12 h03 h13 h04 h14 h05 h15 h06 h16 h07 h17 : V)
    (e00 : h00 = z 0) (e10 : h10 = z 1)
    (e01 : h01 = z 6) (e11 : h11 = z 7)
    (e02 : h02 = z 12) (e12 : h12 = z 13)
    (e03 : h03 = z 18) (e13 : h13 = z 19)
    (e04 : h04 = z 24) (e14 : h14 = z 25)
    (e05 : h05 = z 30) (e15 : h15 = z 31)
    (e06 : h06 = z 36) (e16 : h16 = z 37)
    (e07 : h07 = z 42) (e17 : h17 = z 43) :
    [Y 47 h17, Y 46 h07, Y 45 h17, Y 44 h07, Y 43 h17, Y 42 h07, Y 41 h16, Y 40 h06, Y 39 h16, Y 38 h06, Y 37 h16, Y 36 h06, Y 35 h15, Y 34 h05, Y 33 h15, Y 32 h05, Y 31 h15, Y 30 h05, Y 29 h14, Y 28 h04, Y 27 h14, Y 26 h04, Y 25 h14, Y 24 h04, Y 23 h13, Y 22 h03, Y 21 h13, Y 20 h03, Y 19 h13, Y 18 h03, Y 17 h12, Y 16 h02, Y 15 h12, Y 14 h02, Y 13 h12, Y 12 h02, Y 11 h11, Y 10 h01, Y 9 h11, Y 8 h01, Y 7 h11, Y 6 h01, Y 5 h10, Y 4 h00, Y 3 h10, Y 2 h00, Y 1 h10, Y 0 h00] = steps.map fun n => Y n (z n) := by
  subst_vars
  have hh : ∀ n m, nb n = nb m → ng n = ng m → Y n (z m) = Y n (z n) := fun n m hb hg => by rw [hz n m hb hg]
  simp only [steps, List.map_cons, List.map_nil]
  repeat' refine congrArg₂ List.cons (hh _ _ rfl rfl) ?_
  rfl

theorem hRect_eq (n m : Fin 48) (hb : nb n = nb m) (hg : ng n = ng m) : hRect n = hRect m := by
  unfold hRect
  simp only [hb, hg]

end Cert.Scan
-- ==== Proof.BlockAt.lean ====
/- One grid point's blocks at an index, over the extended reals. -/
module

public import proofs.«01_k».proof.Proof.Pieces
public import proofs.«01_k».proof.Proof.Spec
public import Idealize.ShloMosaic.Lib.WordCmp

@[expose] public section

set_option maxRecDepth 16384

noncomputable section

namespace Cert.Scan

open Cert.KernelIdeal Cert.KernelIdeal.Gen Idealize.ShloMosaic Idealize.ShloMosaic.TcCoe

theorem sel_tri (l s : Fin 128) (a b : EReal) :
    Scalar.select (IntOp.cmpi .sge (BitVec.ofNat 32 l.val) (BitVec.ofNat 32 s.val)) a b = if s.val ≤ l.val then a else b := by
  rw [WordCmp.cmpi_sge_ofNat (by have := l.isLt; omega) (by have := s.isLt; omega)]
  by_cases h : s.val ≤ l.val <;> simp [Scalar.select, h]

theorem sel_left (q : Fin 128) (a b : EReal) :
    Scalar.select (IntOp.cmpi .slt (BitVec.ofNat 32 q.val) 64#32) a b = if q.val < 64 then a else b := by
  rw [show (64#32 : BitVec 32) = BitVec.ofNat 32 64 from rfl, WordCmp.cmpi_slt_ofNat (by have := q.isLt; omega) (by omega)]
  by_cases h : q.val < 64 <;> simp [Scalar.select, h]

variable (x0 : Vec Ideal S2x128x3072 .bf16) (x1 x2 : Vec Ideal S2x128x1024 .bf16) (x3 x4 x5 x6 : Vec Ideal S2x128x128 .f32)
  (h : Vec Ideal S2x8x384x128 .f32)

/-- A result element: batch `b`, row `l`, lane `e`. -/
def yE (b : Fin 2) (l : Fin 128) (e : Fin 3072) : EReal :=
  (∑ s : Fin 128, (∑ n : Fin 128, x2 (ix3 b l ⟨128 * (e.val / 384) + n.val, by have := e.isLt; have := n.isLt; omega⟩)
        * x1 (ix3 b s ⟨128 * (e.val / 384) + n.val, by have := e.isLt; have := n.isLt; omega⟩))
      * Ideal.exp (if s.val ≤ l.val then x4 (ix3 b l ⟨e.val / 64, by have := e.isLt; omega⟩)
          - x5 (ix3 b ⟨e.val / 64, by have := e.isLt; omega⟩ s) else low)
      * x3 (ix3 b ⟨e.val / 64, by have := e.isLt; omega⟩ s) * x0 (ix3 b s e))
  + (∑ n : Fin 128, x2 (ix3 b l ⟨128 * (e.val / 384) + n.val, by have := e.isLt; have := n.isLt; omega⟩)
      * h (ix4 b ⟨e.val / 384, by have := e.isLt; omega⟩ ⟨e.val % 384, by omega⟩ n))
    * Ideal.exp (x4 (ix3 b l ⟨e.val / 64, by have := e.isLt; omega⟩))

/-- A state element: batch `b`, group `g`, row `r` and column `n`. -/
def hE (b : Fin 2) (g : Fin 8) (r : Fin 384) (n : Fin 128) : EReal :=
  h (ix4 b g r n) * Ideal.exp (x4 (ix3 b 127 ⟨6 * g.val + r.val / 64, by have := g.isLt; have := r.isLt; omega⟩))
  + ∑ s : Fin 128, x0 (ix3 b s ⟨384 * g.val + r.val, by have := g.isLt; have := r.isLt; omega⟩)
      * x6 (ix3 b ⟨6 * g.val + r.val / 64, by have := g.isLt; have := r.isLt; omega⟩ s)
      * x1 (ix3 b s ⟨128 * g.val + n.val, by have := g.isLt; have := n.isLt; omega⟩)

theorem pairY_apply (k o : ℕ) (hk : k + 1 < 128) (ho : o + 128 ≤ 384) (acol : Vec Ideal S1x128x128 .f32)
    (bg cg : Vec Ideal S1x128x128 .bf16) (h : Vec Ideal S1x1x384x128 .f32) (xp : Vec Ideal S1x128x128 .bf16)
    (a0 d0 a1 d1 : Vec Ideal S1x1x128 .f32) (l q : Fin 128) :
    pairY k o hk ho acol bg cg h xp a0 d0 a1 d1 (ix3 0 l q) =
      (if q.val < 64 then
        ∑ s : Fin 128, (∑ n : Fin 128, cg (ix3 0 l n) * bg (ix3 0 s n))
          * Ideal.exp (if s.val ≤ l.val then acol (ix3 0 l ⟨k, by omega⟩) - a0 (ix3 0 0 s) else low) * d0 (ix3 0 0 s) * xp (ix3 0 s q)
      else
        ∑ s : Fin 128, (∑ n : Fin 128, cg (ix3 0 l n) * bg (ix3 0 s n))
          * Ideal.exp (if s.val ≤ l.val then acol (ix3 0 l ⟨k + 1, hk⟩) - a1 (ix3 0 0 s) else low) * d1 (ix3 0 0 s) * xp (ix3 0 s q))
      + (∑ n : Fin 128, cg (ix3 0 l n) * h (ix4 0 0 ⟨o + q.val, by have := q.isLt; omega⟩ n))
        * Ideal.exp (if q.val < 64 then acol (ix3 0 l ⟨k, by omega⟩) else acol (ix3 0 l ⟨k + 1, hk⟩)) := by
  pointwise [pairY, inside, carried, dots, colOf, rowOf, tri, left]
  simp only [sel_tri, sel_left]

theorem pairH_apply (k o : ℕ) (hk : k + 1 < 128) (ho : o + 128 ≤ 384) (acol : Vec Ideal S1x128x128 .f32)
    (bg : Vec Ideal S1x128x128 .bf16) (h : Vec Ideal S1x1x384x128 .f32) (xp : Vec Ideal S1x128x128 .bf16)
    (w0 w1 : Vec Ideal S1x1x128 .f32) (r n : Fin 128) :
    pairH k o hk ho acol bg h xp w0 w1 (ix4 0 0 r n) =
      h (ix4 0 0 ⟨o + r.val, by have := r.isLt; omega⟩ n)
        * (if r.val < 64 then Ideal.exp (acol (ix3 0 127 ⟨k, by omega⟩)) else Ideal.exp (acol (ix3 0 127 ⟨k + 1, hk⟩)))
      + ∑ s : Fin 128, (xp (ix3 0 s r) * (if r.val < 64 then w0 (ix3 0 0 s) else w1 (ix3 0 0 s))) * bg (ix3 0 s n) := by
  pointwise [pairH, eRow, wRow, endRow]
  rfl

variable (arg1 : Memref sig .tc .vmem S2x128x3072 .bf16) (harg1 : arg1.IsWhole)
  (arg2 : Memref sig .tc .vmem S2x128x1024 .bf16) (harg2 : arg2.IsWhole)
  (arg3 : Memref sig .tc .vmem S2x128x1024 .bf16) (harg3 : arg3.IsWhole)
  (arg4 : Memref sig .tc .vmem S2x128x128 .f32) (harg4 : arg4.IsWhole)
  (arg5 : Memref sig .tc .vmem S2x128x128 .f32) (harg5 : arg5.IsWhole)
  (arg6 : Memref sig .tc .vmem S2x128x128 .f32) (harg6 : arg6.IsWhole)
  (arg7 : Memref sig .tc .vmem S2x128x128 .f32) (harg7 : arg7.IsWhole)

theorem ldX_apply (n : Fin 48) (l q : Fin 128) :
    ldX (F := Ideal) arg1 harg1 x0 n (ix3 0 l q)
      = x0 (ix3 ⟨nb n, nb_lt n⟩ l ⟨384 * ng n + 128 * np n + q.val, by have := ng_lt n; have := np_lt n; have := q.isLt; omega⟩) := by
  rw [ldX, View.readAt_eq_ld, harg1.read_unread]
  pointwise

theorem ldG_apply (n : Fin 48) (l q : Fin 128) :
    ldG (F := Ideal) arg2 harg2 x1 n (ix3 0 l q)
      = x1 (ix3 ⟨nb n, nb_lt n⟩ l ⟨128 * ng n + q.val, by have := ng_lt n; have := q.isLt; omega⟩) := by
  rw [ldG, View.readAt_eq_ld, harg2.read_unread]
  pointwise

theorem ldA_apply (n : Fin 48) (l q : Fin 128) :
    ldA (F := Ideal) arg5 harg5 x4 n (ix3 0 l q) = x4 (ix3 ⟨nb n, nb_lt n⟩ l q) := by
  rw [ldA, View.readAt_eq_ld, harg5.read_unread]
  pointwise

theorem ldR_apply (n : Fin 48) (k : ℕ) (hk : k < 128) (s : Fin 128) :
    ldR (F := Ideal) arg4 harg4 x3 n k hk (ix3 0 0 s) = x3 (ix3 ⟨nb n, nb_lt n⟩ ⟨k, hk⟩ s) := by
  rw [ldR, View.readAt_eq_ld, harg4.read_unread]
  pointwise

/-- A step's block of the carried state. -/
def ldH (n : Fin 48) : Vec Ideal S1x1x384x128 .f32 := View.ld (Val := Elt Ideal) (e' := .f32) h (hRect n)

theorem ldH_apply (n : Fin 48) (r : Fin 384) (q : Fin 128) :
    ldH h n (ix4 0 0 r q) = h (ix4 ⟨nb n, nb_lt n⟩ ⟨ng n, ng_lt n⟩ r q) := by
  unfold ldH
  pointwise

theorem ldH_eq (n m : Fin 48) (hb : nb n = nb m) (hg : ng n = ng m) : ldH h n = ldH h m := by
  funext j
  idx_vars j
  obtain rfl : j0 = 0 := Subsingleton.elim _ _
  obtain rfl : j1 = 0 := Subsingleton.elim _ _
  rw [ldH_apply, ldH_apply]
  simp only [hb, hg]

/-- The results of a grid point, over whole blocks. -/
def yV : Vec Ideal S2x128x3072 .bf16 := fun j => yE x0 x1 x2 x3 x4 x5 h (j 0) (j 1) (j 2)
def hV : Vec Ideal S2x8x384x128 .f32 := fun j => hE x0 x1 x4 x6 h (j 0) (j 1) (j 2) (j 3)

theorem ldYV_apply (X : Vec Ideal S2x128x3072 .bf16) (n : Fin 48) (l q : Fin 128) :
    (View.ld (Val := Elt Ideal) (e' := .bf16) X (xRect n) : Vec Ideal S1x128x128 .bf16) (ix3 0 l q)
      = X (ix3 ⟨nb n, nb_lt n⟩ l ⟨384 * ng n + 128 * np n + q.val, by have := ng_lt n; have := np_lt n; have := q.isLt; omega⟩) := by
  pointwise

theorem ldHV_apply (X : Vec Ideal S2x8x384x128 .f32) (n : Fin 48) (r q : Fin 128) :
    (View.ld (Val := Elt Ideal) (e' := .f32) X (hpRect n) : Vec Ideal S1x1x128x128 .f32) (ix4 0 0 r q)
      = X (ix4 ⟨nb n, nb_lt n⟩ ⟨ng n, ng_lt n⟩ ⟨128 * np n + r.val, by have := np_lt n; have := r.isLt; omega⟩ q) := by
  pointwise

/-- The pieces of a step are the blocks of the whole results. -/
theorem yP_eq (n : Fin 48) (y : S1x128x128.Idx) :
    (yP (F := Ideal) arg1 harg1 arg2 harg2 arg3 harg3 arg4 harg4 arg5 harg5 arg6 harg6 x0 x1 x2 x3 x4 x5 n (ldH h n)).2 y
      = View.ld (yV x0 x1 x2 x3 x4 x5 h) (xRect n) y := by
  idx_vars y
  obtain rfl : y0 = 0 := Subsingleton.elim _ _
  have hg := ng_lt n
  have hp := np_lt n
  have hq := y2.isLt
  refine (pairY_apply (nk n) (128 * np n) (nk_lt n) (no_le n) ..).trans (Eq.trans ?_ (ldYV_apply (yV x0 x1 x2 x3 x4 x5 h) n y1 y2).symm)
  show _ = yE x0 x1 x2 x3 x4 x5 h ⟨nb n, nb_lt n⟩ y1 ⟨384 * ng n + 128 * np n + y2.val, by omega⟩
  simp only [ldA_apply, ldG_apply, ldR_apply, ldX_apply, ldH_apply, yE]
  simp only [show (384 * ng n + 128 * np n + y2.val) / 384 = ng n by omega, show (384 * ng n + 128 * np n + y2.val) % 384 = 128 * np n + y2.val by omega]
  by_cases h64 : y2.val < 64
  · simp only [if_pos h64, show (384 * ng n + 128 * np n + y2.val) / 64 = nk n by unfold nk; omega]
  · simp only [if_neg h64, show (384 * ng n + 128 * np n + y2.val) / 64 = nk n + 1 by unfold nk; omega]

theorem hP_eq (n : Fin 48) (y : S1x1x128x128.Idx) :
    (hP (F := Ideal) arg1 harg1 arg2 harg2 arg5 harg5 arg7 harg7 x0 x1 x4 x6 n (ldH h n)).2 y
      = View.ld (hV x0 x1 x4 x6 h) (hpRect n) y := by
  idx_vars y
  obtain rfl : y0 = 0 := Subsingleton.elim _ _
  obtain rfl : y1 = 0 := Subsingleton.elim _ _
  have hg := ng_lt n
  have hp := np_lt n
  have hr := y2.isLt
  refine (pairH_apply (nk n) (128 * np n) (nk_lt n) (no_le n) ..).trans (Eq.trans ?_ (ldHV_apply (hV x0 x1 x4 x6 h) n y2 y3).symm)
  show _ = hE x0 x1 x4 x6 h ⟨nb n, nb_lt n⟩ ⟨ng n, ng_lt n⟩ ⟨128 * np n + y2.val, by omega⟩ y3
  simp only [ldA_apply, ldG_apply, ldR_apply, ldX_apply, ldH_apply, hE, ← Nat.add_assoc]
  by_cases h64 : y2.val < 64
  · simp only [if_pos h64, show 6 * ng n + (128 * np n + y2.val) / 64 = nk n by unfold nk; omega]
  · simp only [if_neg h64, show 6 * ng n + (128 * np n + y2.val) / 64 = nk n + 1 by unfold nk; omega]

end Cert.Scan
-- ==== Proof.CaseA.lean ====
/- What a grid point of case A stores, piece by piece. -/
module

public import proofs.«01_k».proof.Proof.Pieces
public import proofs.«01_k».proof.Proof.Gen.KernelIdeal.Frame.RunA
public import Idealize.ShloMosaic.Lib.Pipeline.ReadBack

@[expose] public section

set_option maxRecDepth 16384

noncomputable section

namespace Cert.Scan

open Cert.KernelIdeal Cert.KernelIdeal.Gen Idealize.ShloMosaic Idealize.ShloMosaic.TcCoe

variable {F : FTy → Type} [FloatOps F]

set_option maxHeartbeats 4000000 in
/-- The pieces are the steps' pieces, each over the state block it loaded. -/
theorem piecesA (c : Dev nD) (i : grid0.Coords)
    (arg1 : Memref sig .tc .vmem S2x128x3072 .bf16) (harg1 : arg1.IsWhole)
    (arg2 : Memref sig .tc .vmem S2x128x1024 .bf16) (harg2 : arg2.IsWhole)
    (arg3 : Memref sig .tc .vmem S2x128x1024 .bf16) (harg3 : arg3.IsWhole)
    (arg4 : Memref sig .tc .vmem S2x128x128 .f32) (harg4 : arg4.IsWhole)
    (arg5 : Memref sig .tc .vmem S2x128x128 .f32) (harg5 : arg5.IsWhole)
    (arg6 : Memref sig .tc .vmem S2x128x128 .f32) (harg6 : arg6.IsWhole)
    (arg7 : Memref sig .tc .vmem S2x128x128 .f32) (harg7 : arg7.IsWhole)
    (arg8 : Memref sig .tc .vmem S2x8x384x128 .f32) (harg8 : arg8.IsWhole)
    (arg9 : Memref sig .tc .vmem S2x128x3072 .bf16) (harg9 : arg9.IsWhole)
    (arg10 : Memref sig .tc .vmem S2x8x384x128 .f32) (harg10 : arg10.IsWhole)
    (arg11 : Memref sig .tc .vmem S2x8x384x128 .f32) (harg11 : arg11.IsWhole)
    (hc0 : cond0_0 i) (hc1 : ¬cond0_1 i)
    (x0 : Vec F S2x128x3072 .bf16) (x1 : Vec F S2x128x1024 .bf16) (x2 : Vec F S2x128x1024 .bf16) (x3 : Vec F S2x128x128 .f32) (x4 : Vec F S2x128x128 .f32) (x5 : Vec F S2x128x128 .f32) (x6 : Vec F S2x128x128 .f32) (x7 : Vec F S2x8x384x128 .f32) :
    ∃ h00 h10 h01 h11 h02 h12 h03 h13 h04 h14 h05 h15 h06 h16 h07 h17 : Vec F S1x1x384x128 .f32,
      let Y := yP arg1 harg1 arg2 harg2 arg3 harg3 arg4 harg4 arg5 harg5 arg6 harg6 x0 x1 x2 x3 x4 x5
      let H := hP arg1 harg1 arg2 harg2 arg5 harg5 arg7 harg7 x0 x1 x4 x6
      (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1 =
        [Y 47 h17, Y 46 h07, Y 45 h17, Y 44 h07, Y 43 h17, Y 42 h07, Y 41 h16, Y 40 h06, Y 39 h16, Y 38 h06, Y 37 h16, Y 36 h06, Y 35 h15, Y 34 h05, Y 33 h15, Y 32 h05, Y 31 h15, Y 30 h05, Y 29 h14, Y 28 h04, Y 27 h14, Y 26 h04, Y 25 h14, Y 24 h04, Y 23 h13, Y 22 h03, Y 21 h13, Y 20 h03, Y 19 h13, Y 18 h03, Y 17 h12, Y 16 h02, Y 15 h12, Y 14 h02, Y 13 h12, Y 12 h02, Y 11 h11, Y 10 h01, Y 9 h11, Y 8 h01, Y 7 h11, Y 6 h01, Y 5 h10, Y 4 h00, Y 3 h10, Y 2 h00, Y 1 h10, Y 0 h00] ∧
      (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1 =
        [H 47 h17, H 46 h07, H 45 h17, H 44 h07, H 43 h17, H 42 h07, H 41 h16, H 40 h06, H 39 h16, H 38 h06, H 37 h16, H 36 h06, H 35 h15, H 34 h05, H 33 h15, H 32 h05, H 31 h15, H 30 h05, H 29 h14, H 28 h04, H 27 h14, H 26 h04, H 25 h14, H 24 h04, H 23 h13, H 22 h03, H 21 h13, H 20 h03, H 19 h13, H 18 h03, H 17 h12, H 16 h02, H 15 h12, H 14 h02, H 13 h12, H 12 h02, H 11 h11, H 10 h01, H 9 h11, H 8 h01, H 7 h11, H 6 h01, H 5 h10, H 4 h00, H 3 h10, H 2 h00, H 1 h10, H 0 h00] ++
        [⟨Rect.unit ![0, 0, 0, 0] S2x8x384x128.size inb_S2x8x384x128_S2x8x384x128_0_0_0_0, k0_pay1 (View.readAt (Elt F) arg8.view
          (Rect.unit ![0, 0, 0, 0] S2x8x384x128.size inb_S2x8x384x128_S2x8x384x128_0_0_0_0).toLoadRect (harg8.unread x7))⟩] ∧
      h00 = View.ld x7 (hRect 0) ∧
      h10 = View.ld x7 (hRect 1) ∧
      h01 = View.ld x7 (hRect 6) ∧
      h11 = View.ld x7 (hRect 7) ∧
      h02 = View.ld x7 (hRect 12) ∧
      h12 = View.ld x7 (hRect 13) ∧
      h03 = View.ld x7 (hRect 18) ∧
      h13 = View.ld x7 (hRect 19) ∧
      h04 = View.ld x7 (hRect 24) ∧
      h14 = View.ld x7 (hRect 25) ∧
      h05 = View.ld x7 (hRect 30) ∧
      h15 = View.ld x7 (hRect 31) ∧
      h06 = View.ld x7 (hRect 36) ∧
      h16 = View.ld x7 (hRect 37) ∧
      h07 = View.ld x7 (hRect 42) ∧
      h17 = View.ld x7 (hRect 43) := by
  unfold kernelRun0_A
  refine ⟨_, _, _, _, _, _, _, _, _, _, _, _, _, _, _, _, rfl, rfl, ?_⟩
  have key : ∀ R : Rect S2x8x384x128, View.readCov arg11.view
      [⟨Rect.unit ![0, 0, 0, 0] S2x8x384x128.size inb_S2x8x384x128_S2x8x384x128_0_0_0_0, k0_pay1 (View.readAt (Elt F) arg8.view
        (Rect.unit ![0, 0, 0, 0] S2x8x384x128.size inb_S2x8x384x128_S2x8x384x128_0_0_0_0).toLoadRect (harg8.unread x7))⟩] R.toLoadRect
      = View.ld x7 R := fun R => by
    rw [View.readCov_fill _ _ _ _ _ (fun a => by fin_cases a <;> rfl), View.readAt_eq_ld, harg8.read_unread,
      View.ld_unit_zero (S := S2x8x384x128) (funext fun a => by fin_cases a <;> rfl)]
    unfold k0_pay1
    exact congrArg (View.ld · R) ((shapeCast_self _ _).trans (shapeCast_self _ _))
  refine ⟨?_, ?_, ?_, ?_, ?_, ?_, ?_, ?_, ?_, ?_, ?_, ?_, ?_, ?_, ?_, ?_⟩ <;>
    (repeat (refine (View.readCov_skip _ _ _ _ _ ?_).trans ?_; · rfl)
     exact key _)

end Cert.Scan
-- ==== Proof.CaseB.lean ====
/- What a grid point of case B stores, piece by piece. -/
module

public import proofs.«01_k».proof.Proof.Pieces
public import proofs.«01_k».proof.Proof.Gen.KernelIdeal.Frame.RunB
public import Idealize.ShloMosaic.Lib.Pipeline.ReadBack

@[expose] public section

set_option maxRecDepth 16384

noncomputable section

namespace Cert.Scan

open Cert.KernelIdeal Cert.KernelIdeal.Gen Idealize.ShloMosaic Idealize.ShloMosaic.TcCoe

variable {F : FTy → Type} [FloatOps F]

set_option maxHeartbeats 4000000 in
/-- The pieces are the steps' pieces, each over the state block it loaded. -/
theorem piecesB (c : Dev nD) (i : grid0.Coords)
    (arg1 : Memref sig .tc .vmem S2x128x3072 .bf16) (harg1 : arg1.IsWhole)
    (arg2 : Memref sig .tc .vmem S2x128x1024 .bf16) (harg2 : arg2.IsWhole)
    (arg3 : Memref sig .tc .vmem S2x128x1024 .bf16) (harg3 : arg3.IsWhole)
    (arg4 : Memref sig .tc .vmem S2x128x128 .f32) (harg4 : arg4.IsWhole)
    (arg5 : Memref sig .tc .vmem S2x128x128 .f32) (harg5 : arg5.IsWhole)
    (arg6 : Memref sig .tc .vmem S2x128x128 .f32) (harg6 : arg6.IsWhole)
    (arg7 : Memref sig .tc .vmem S2x128x128 .f32) (harg7 : arg7.IsWhole)
    (arg8 : Memref sig .tc .vmem S2x8x384x128 .f32) (harg8 : arg8.IsWhole)
    (arg9 : Memref sig .tc .vmem S2x128x3072 .bf16) (harg9 : arg9.IsWhole)
    (arg10 : Memref sig .tc .vmem S2x8x384x128 .f32) (harg10 : arg10.IsWhole)
    (arg11 : Memref sig .tc .vmem S2x8x384x128 .f32) (harg11 : arg11.IsWhole)
    (hc0 : ¬cond0_0 i) (hc1 : ¬cond0_1 i)
    (x0 : Vec F S2x128x3072 .bf16) (x1 : Vec F S2x128x1024 .bf16) (x2 : Vec F S2x128x1024 .bf16) (x3 : Vec F S2x128x128 .f32) (x4 : Vec F S2x128x128 .f32) (x5 : Vec F S2x128x128 .f32) (x6 : Vec F S2x128x128 .f32) (x7 : Vec F S2x8x384x128 .f32) (xs0 : Vec F S2x8x384x128 .f32) :
    ∃ h00 h10 h01 h11 h02 h12 h03 h13 h04 h14 h05 h15 h06 h16 h07 h17 : Vec F S1x1x384x128 .f32,
      let Y := yP arg1 harg1 arg2 harg2 arg3 harg3 arg4 harg4 arg5 harg5 arg6 harg6 x0 x1 x2 x3 x4 x5
      let H := hP arg1 harg1 arg2 harg2 arg5 harg5 arg7 harg7 x0 x1 x4 x6
      (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).1 =
        [Y 47 h17, Y 46 h07, Y 45 h17, Y 44 h07, Y 43 h17, Y 42 h07, Y 41 h16, Y 40 h06, Y 39 h16, Y 38 h06, Y 37 h16, Y 36 h06, Y 35 h15, Y 34 h05, Y 33 h15, Y 32 h05, Y 31 h15, Y 30 h05, Y 29 h14, Y 28 h04, Y 27 h14, Y 26 h04, Y 25 h14, Y 24 h04, Y 23 h13, Y 22 h03, Y 21 h13, Y 20 h03, Y 19 h13, Y 18 h03, Y 17 h12, Y 16 h02, Y 15 h12, Y 14 h02, Y 13 h12, Y 12 h02, Y 11 h11, Y 10 h01, Y 9 h11, Y 8 h01, Y 7 h11, Y 6 h01, Y 5 h10, Y 4 h00, Y 3 h10, Y 2 h00, Y 1 h10, Y 0 h00] ∧
      (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.2.1 =
        [H 47 h17, H 46 h07, H 45 h17, H 44 h07, H 43 h17, H 42 h07, H 41 h16, H 40 h06, H 39 h16, H 38 h06, H 37 h16, H 36 h06, H 35 h15, H 34 h05, H 33 h15, H 32 h05, H 31 h15, H 30 h05, H 29 h14, H 28 h04, H 27 h14, H 26 h04, H 25 h14, H 24 h04, H 23 h13, H 22 h03, H 21 h13, H 20 h03, H 19 h13, H 18 h03, H 17 h12, H 16 h02, H 15 h12, H 14 h02, H 13 h12, H 12 h02, H 11 h11, H 10 h01, H 9 h11, H 8 h01, H 7 h11, H 6 h01, H 5 h10, H 4 h00, H 3 h10, H 2 h00, H 1 h10, H 0 h00] ∧
      h00 = View.ld xs0 (hRect 0) ∧
      h10 = View.ld xs0 (hRect 1) ∧
      h01 = View.ld xs0 (hRect 6) ∧
      h11 = View.ld xs0 (hRect 7) ∧
      h02 = View.ld xs0 (hRect 12) ∧
      h12 = View.ld xs0 (hRect 13) ∧
      h03 = View.ld xs0 (hRect 18) ∧
      h13 = View.ld xs0 (hRect 19) ∧
      h04 = View.ld xs0 (hRect 24) ∧
      h14 = View.ld xs0 (hRect 25) ∧
      h05 = View.ld xs0 (hRect 30) ∧
      h15 = View.ld xs0 (hRect 31) ∧
      h06 = View.ld xs0 (hRect 36) ∧
      h16 = View.ld xs0 (hRect 37) ∧
      h07 = View.ld xs0 (hRect 42) ∧
      h17 = View.ld xs0 (hRect 43) := by
  unfold kernelRun0_B
  refine ⟨_, _, _, _, _, _, _, _, _, _, _, _, _, _, _, _, rfl, rfl, ?_⟩
  have key : ∀ R : Rect S2x8x384x128, View.readAt (Elt F) arg11.view R.toLoadRect (harg11.unread xs0) = View.ld xs0 R := fun R => by
    rw [View.readAt_eq_ld, harg11.read_unread]
  exact ⟨key _, key _, key _, key _, key _, key _, key _, key _, key _, key _, key _, key _, key _, key _, key _, key _⟩

end Cert.Scan
-- ==== Proof.CaseC.lean ====
/- What a grid point of case C stores, piece by piece. -/
module

public import proofs.«01_k».proof.Proof.Pieces
public import proofs.«01_k».proof.Proof.Gen.KernelIdeal.Frame.RunC
public import Idealize.ShloMosaic.Lib.Pipeline.ReadBack

@[expose] public section

set_option maxRecDepth 16384

noncomputable section

namespace Cert.Scan

open Cert.KernelIdeal Cert.KernelIdeal.Gen Idealize.ShloMosaic Idealize.ShloMosaic.TcCoe

variable {F : FTy → Type} [FloatOps F]

set_option maxHeartbeats 4000000 in
/-- The pieces are the steps' pieces, each over the state block it loaded. -/
theorem piecesC (c : Dev nD) (i : grid0.Coords)
    (arg1 : Memref sig .tc .vmem S2x128x3072 .bf16) (harg1 : arg1.IsWhole)
    (arg2 : Memref sig .tc .vmem S2x128x1024 .bf16) (harg2 : arg2.IsWhole)
    (arg3 : Memref sig .tc .vmem S2x128x1024 .bf16) (harg3 : arg3.IsWhole)
    (arg4 : Memref sig .tc .vmem S2x128x128 .f32) (harg4 : arg4.IsWhole)
    (arg5 : Memref sig .tc .vmem S2x128x128 .f32) (harg5 : arg5.IsWhole)
    (arg6 : Memref sig .tc .vmem S2x128x128 .f32) (harg6 : arg6.IsWhole)
    (arg7 : Memref sig .tc .vmem S2x128x128 .f32) (harg7 : arg7.IsWhole)
    (arg8 : Memref sig .tc .vmem S2x8x384x128 .f32) (harg8 : arg8.IsWhole)
    (arg9 : Memref sig .tc .vmem S2x128x3072 .bf16) (harg9 : arg9.IsWhole)
    (arg10 : Memref sig .tc .vmem S2x8x384x128 .f32) (harg10 : arg10.IsWhole)
    (arg11 : Memref sig .tc .vmem S2x8x384x128 .f32) (harg11 : arg11.IsWhole)
    (hc0 : ¬cond0_0 i) (hc1 : cond0_1 i)
    (x0 : Vec F S2x128x3072 .bf16) (x1 : Vec F S2x128x1024 .bf16) (x2 : Vec F S2x128x1024 .bf16) (x3 : Vec F S2x128x128 .f32) (x4 : Vec F S2x128x128 .f32) (x5 : Vec F S2x128x128 .f32) (x6 : Vec F S2x128x128 .f32) (x7 : Vec F S2x8x384x128 .f32) (xs0 : Vec F S2x8x384x128 .f32) :
    ∃ h00 h10 h01 h11 h02 h12 h03 h13 h04 h14 h05 h15 h06 h16 h07 h17 : Vec F S1x1x384x128 .f32,
      let Y := yP arg1 harg1 arg2 harg2 arg3 harg3 arg4 harg4 arg5 harg5 arg6 harg6 x0 x1 x2 x3 x4 x5
      let H := hP arg1 harg1 arg2 harg2 arg5 harg5 arg7 harg7 x0 x1 x4 x6
      (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).1 =
        [Y 47 h17, Y 46 h07, Y 45 h17, Y 44 h07, Y 43 h17, Y 42 h07, Y 41 h16, Y 40 h06, Y 39 h16, Y 38 h06, Y 37 h16, Y 36 h06, Y 35 h15, Y 34 h05, Y 33 h15, Y 32 h05, Y 31 h15, Y 30 h05, Y 29 h14, Y 28 h04, Y 27 h14, Y 26 h04, Y 25 h14, Y 24 h04, Y 23 h13, Y 22 h03, Y 21 h13, Y 20 h03, Y 19 h13, Y 18 h03, Y 17 h12, Y 16 h02, Y 15 h12, Y 14 h02, Y 13 h12, Y 12 h02, Y 11 h11, Y 10 h01, Y 9 h11, Y 8 h01, Y 7 h11, Y 6 h01, Y 5 h10, Y 4 h00, Y 3 h10, Y 2 h00, Y 1 h10, Y 0 h00] ∧
      (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.2.1 =
        [H 47 h17, H 46 h07, H 45 h17, H 44 h07, H 43 h17, H 42 h07, H 41 h16, H 40 h06, H 39 h16, H 38 h06, H 37 h16, H 36 h06, H 35 h15, H 34 h05, H 33 h15, H 32 h05, H 31 h15, H 30 h05, H 29 h14, H 28 h04, H 27 h14, H 26 h04, H 25 h14, H 24 h04, H 23 h13, H 22 h03, H 21 h13, H 20 h03, H 19 h13, H 18 h03, H 17 h12, H 16 h02, H 15 h12, H 14 h02, H 13 h12, H 12 h02, H 11 h11, H 10 h01, H 9 h11, H 8 h01, H 7 h11, H 6 h01, H 5 h10, H 4 h00, H 3 h10, H 2 h00, H 1 h10, H 0 h00] ∧
      h00 = View.ld xs0 (hRect 0) ∧
      h10 = View.ld xs0 (hRect 1) ∧
      h01 = View.ld xs0 (hRect 6) ∧
      h11 = View.ld xs0 (hRect 7) ∧
      h02 = View.ld xs0 (hRect 12) ∧
      h12 = View.ld xs0 (hRect 13) ∧
      h03 = View.ld xs0 (hRect 18) ∧
      h13 = View.ld xs0 (hRect 19) ∧
      h04 = View.ld xs0 (hRect 24) ∧
      h14 = View.ld xs0 (hRect 25) ∧
      h05 = View.ld xs0 (hRect 30) ∧
      h15 = View.ld xs0 (hRect 31) ∧
      h06 = View.ld xs0 (hRect 36) ∧
      h16 = View.ld xs0 (hRect 37) ∧
      h07 = View.ld xs0 (hRect 42) ∧
      h17 = View.ld xs0 (hRect 43) := by
  unfold kernelRun0_C
  refine ⟨_, _, _, _, _, _, _, _, _, _, _, _, _, _, _, _, rfl, rfl, ?_⟩
  have key : ∀ R : Rect S2x8x384x128, View.readAt (Elt F) arg11.view R.toLoadRect (harg11.unread xs0) = View.ld xs0 R := fun R => by
    rw [View.readAt_eq_ld, harg11.read_unread]
  exact ⟨key _, key _, key _, key _, key _, key _, key _, key _, key _, key _, key _, key _, key _, key _, key _, key _⟩

end Cert.Scan
-- ==== Proof.Point.lean ====
/- What a grid point leaves in the result block and in the carried state, over the extended reals. -/
module

public import proofs.«01_k».proof.Proof.BlockAt
public import proofs.«01_k».proof.Proof.CaseA
public import proofs.«01_k».proof.Proof.CaseB
public import proofs.«01_k».proof.Proof.CaseC
public import proofs.«01_k».proof.Proof.Gen.KernelIdeal.Frame
public import Idealize.ShloMosaic.Lib.Pipeline.CanonAppend

@[expose] public section

set_option maxRecDepth 16384

noncomputable section

namespace Cert.Scan

open Cert.KernelIdeal Cert.KernelIdeal.Gen Idealize.ShloMosaic Idealize.ShloMosaic.TcCoe

theorem mem_steps : ∀ n : Fin 48, n ∈ steps := by decide

/-- The steps' pieces cover the result block, -/
theorem y_cover (j : S2x128x3072.Idx) : ∃ n : Fin 48, j ∈ (xRect n).set := by
  have h0 : (j 0).val < 2 := (j 0).isLt
  have h1 : (j 1).val < 128 := (j 1).isLt
  have h2 : (j 2).val < 3072 := (j 2).isLt
  refine ⟨⟨6 * ((j 2).val / 384) + 2 * ((j 2).val % 384 / 128) + (j 0).val, by omega⟩, ?_⟩
  rw [Rect.mem_set_unit]
  intro a
  match a with
  | ⟨0, _⟩ => show nb _ ≤ (j 0).val ∧ (j 0).val < nb _ + 1; unfold nb; dsimp only; omega
  | ⟨1, _⟩ => show 0 ≤ (j 1).val ∧ (j 1).val < 0 + 128; omega
  | ⟨2, _⟩ => show 384 * ng _ + 128 * np _ ≤ (j 2).val ∧ (j 2).val < 384 * ng _ + 128 * np _ + 128; unfold ng np; dsimp only; omega

/-- and the state. -/
theorem h_cover (j : S2x8x384x128.Idx) : ∃ n : Fin 48, j ∈ (hpRect n).set := by
  have h0 : (j 0).val < 2 := (j 0).isLt
  have h1 : (j 1).val < 8 := (j 1).isLt
  have h2 : (j 2).val < 384 := (j 2).isLt
  have h3 : (j 3).val < 128 := (j 3).isLt
  refine ⟨⟨6 * (j 1).val + 2 * ((j 2).val / 128) + (j 0).val, by omega⟩, ?_⟩
  rw [Rect.mem_set_unit]
  intro a
  match a with
  | ⟨0, _⟩ => show nb _ ≤ (j 0).val ∧ (j 0).val < nb _ + 1; unfold nb; dsimp only; omega
  | ⟨1, _⟩ => show ng _ ≤ (j 1).val ∧ (j 1).val < ng _ + 1; unfold ng; dsimp only; omega
  | ⟨2, _⟩ => show 128 * np _ ≤ (j 2).val ∧ (j 2).val < 128 * np _ + 128; unfold np; dsimp only; omega
  | ⟨3, _⟩ => show 0 ≤ (j 3).val ∧ (j 3).val < 0 + 128; omega

theorem canon_steps_append {S : Shape} {e : EltTy} (G : Vec Ideal S e) (P : Fin 48 → View.Piece (Elt Ideal) S e)
    (hP : ∀ n x, (P n).2 x = View.ld G (P n).1 x) (hc : ∀ j, ∃ n, j ∈ (P n).1.set) (L' : List (View.Piece (Elt Ideal) S e)) :
    View.canon (steps.map P ++ L') = G :=
  funext fun j => View.canon_append_of_pieces G L' (steps.map P)
    (fun p hp x => by obtain ⟨n, -, rfl⟩ := List.mem_map.mp hp; exact hP n x) j
    (by obtain ⟨n, hn⟩ := hc j; exact ⟨P n, List.mem_map.mpr ⟨n, mem_steps n, rfl⟩, hn⟩)

theorem canon_steps {S : Shape} {e : EltTy} (G : Vec Ideal S e) (P : Fin 48 → View.Piece (Elt Ideal) S e)
    (hP : ∀ n x, (P n).2 x = View.ld G (P n).1 x) (hc : ∀ j, ∃ n, j ∈ (P n).1.set) : View.canon (steps.map P) = G := by
  have e := canon_steps_append G P hP hc []
  rwa [List.append_nil] at e

set_option maxHeartbeats 400000 in
/-- Case A: the result block is `yV` and the state `hV` of the state before. -/
theorem canonA (c : Dev nD) (i : grid0.Coords)
    (arg1 : Memref sig .tc .vmem S2x128x3072 .bf16) (harg1 : arg1.IsWhole)
    (arg2 : Memref sig .tc .vmem S2x128x1024 .bf16) (harg2 : arg2.IsWhole)
    (arg3 : Memref sig .tc .vmem S2x128x1024 .bf16) (harg3 : arg3.IsWhole)
    (arg4 : Memref sig .tc .vmem S2x128x128 .f32) (harg4 : arg4.IsWhole)
    (arg5 : Memref sig .tc .vmem S2x128x128 .f32) (harg5 : arg5.IsWhole)
    (arg6 : Memref sig .tc .vmem S2x128x128 .f32) (harg6 : arg6.IsWhole)
    (arg7 : Memref sig .tc .vmem S2x128x128 .f32) (harg7 : arg7.IsWhole)
    (arg8 : Memref sig .tc .vmem S2x8x384x128 .f32) (harg8 : arg8.IsWhole)
    (arg9 : Memref sig .tc .vmem S2x128x3072 .bf16) (harg9 : arg9.IsWhole)
    (arg10 : Memref sig .tc .vmem S2x8x384x128 .f32) (harg10 : arg10.IsWhole)
    (arg11 : Memref sig .tc .vmem S2x8x384x128 .f32) (harg11 : arg11.IsWhole)
    (hc0 : cond0_0 i) (hc1 : ¬cond0_1 i)
    (x0 : Vec Ideal S2x128x3072 .bf16) (x1 : Vec Ideal S2x128x1024 .bf16) (x2 : Vec Ideal S2x128x1024 .bf16) (x3 : Vec Ideal S2x128x128 .f32) (x4 : Vec Ideal S2x128x128 .f32) (x5 : Vec Ideal S2x128x128 .f32) (x6 : Vec Ideal S2x128x128 .f32) (x7 : Vec Ideal S2x8x384x128 .f32) :
    View.canon (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 x7).1 = yV x0 x1 x2 x3 x4 x5 x7 ∧
    View.canon (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1 = hV x0 x1 x4 x6 x7 := by
  obtain ⟨h00, h10, h01, h11, h02, h12, h03, h13, h04, h14, h05, h15, h06, h16, h07, h17,
    e8, es, e00, e10, e01, e11, e02, e12, e03, e13, e04, e14, e05, e15, e06, e16, e07, e17⟩ := piecesA (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 x7
  have e8' := e8.trans (steps_map (yP arg1 harg1 arg2 harg2 arg3 harg3 arg4 harg4 arg5 harg5 arg6 harg6 x0 x1 x2 x3 x4 x5) (ldH x7) (ldH_eq x7) h00 h10 h01 h11 h02 h12 h03 h13 h04 h14 h05 h15 h06 h16 h07 h17
    e00 e10 e01 e11 e02 e12 e03 e13 e04 e14 e05 e15 e06 e16 e07 e17)
  have es' := es.trans (congrArg (· ++ _) (steps_map (hP arg1 harg1 arg2 harg2 arg5 harg5 arg7 harg7 x0 x1 x4 x6) (ldH x7) (ldH_eq x7) h00 h10 h01 h11 h02 h12 h03 h13 h04 h14 h05 h15 h06 h16 h07 h17
    e00 e10 e01 e11 e02 e12 e03 e13 e04 e14 e05 e15 e06 e16 e07 e17))
  refine ⟨(congrArg View.canon e8').trans (canon_steps (yV x0 x1 x2 x3 x4 x5 x7) (fun n => yP arg1 harg1 arg2 harg2 arg3 harg3 arg4 harg4 arg5 harg5 arg6 harg6 x0 x1 x2 x3 x4 x5 n (ldH x7 n)) ?_ y_cover),
    (congrArg View.canon es').trans (canon_steps_append (hV x0 x1 x4 x6 x7) (fun n => hP arg1 harg1 arg2 harg2 arg5 harg5 arg7 harg7 x0 x1 x4 x6 n (ldH x7 n)) ?_ h_cover _)⟩
  · intro n x
    exact yP_eq x0 x1 x2 x3 x4 x5 x7 arg1 harg1 arg2 harg2 arg3 harg3 arg4 harg4 arg5 harg5 arg6 harg6 n x
  · intro n x
    exact hP_eq x0 x1 x4 x6 x7 arg1 harg1 arg2 harg2 arg5 harg5 arg7 harg7 n x

theorem outA_y (c : Dev nD) (i : grid0.Coords)
    (arg1 : Memref sig .tc .vmem S2x128x3072 .bf16) (harg1 : arg1.IsWhole)
    (arg2 : Memref sig .tc .vmem S2x128x1024 .bf16) (harg2 : arg2.IsWhole)
    (arg3 : Memref sig .tc .vmem S2x128x1024 .bf16) (harg3 : arg3.IsWhole)
    (arg4 : Memref sig .tc .vmem S2x128x128 .f32) (harg4 : arg4.IsWhole)
    (arg5 : Memref sig .tc .vmem S2x128x128 .f32) (harg5 : arg5.IsWhole)
    (arg6 : Memref sig .tc .vmem S2x128x128 .f32) (harg6 : arg6.IsWhole)
    (arg7 : Memref sig .tc .vmem S2x128x128 .f32) (harg7 : arg7.IsWhole)
    (arg8 : Memref sig .tc .vmem S2x8x384x128 .f32) (harg8 : arg8.IsWhole)
    (arg9 : Memref sig .tc .vmem S2x128x3072 .bf16) (harg9 : arg9.IsWhole)
    (arg10 : Memref sig .tc .vmem S2x8x384x128 .f32) (harg10 : arg10.IsWhole)
    (arg11 : Memref sig .tc .vmem S2x8x384x128 .f32) (harg11 : arg11.IsWhole)
    (hc0 : cond0_0 i) (hc1 : ¬cond0_1 i)
    (x0 : Vec Ideal S2x128x3072 .bf16) (x1 : Vec Ideal S2x128x1024 .bf16) (x2 : Vec Ideal S2x128x1024 .bf16) (x3 : Vec Ideal S2x128x128 .f32) (x4 : Vec Ideal S2x128x128 .f32) (x5 : Vec Ideal S2x128x128 .f32) (x6 : Vec Ideal S2x128x128 .f32) (x7 : Vec Ideal S2x8x384x128 .f32) :
    out0_A_8 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 x7 = yV x0 x1 x2 x3 x4 x5 x7 :=
  (funext fun j => View.read_writes_junk_apply_eq_canon _ j _ : _ = View.canon _).trans (canonA c i arg1 harg1 arg2 harg2 arg3 harg3 arg4 harg4 arg5 harg5 arg6 harg6 arg7 harg7 arg8 harg8 arg9 harg9 arg10 harg10 arg11 harg11 hc0 hc1 x0 x1 x2 x3 x4 x5 x6 x7).1

theorem outA_h (c : Dev nD) (i : grid0.Coords)
    (arg1 : Memref sig .tc .vmem S2x128x3072 .bf16) (harg1 : arg1.IsWhole)
    (arg2 : Memref sig .tc .vmem S2x128x1024 .bf16) (harg2 : arg2.IsWhole)
    (arg3 : Memref sig .tc .vmem S2x128x1024 .bf16) (harg3 : arg3.IsWhole)
    (arg4 : Memref sig .tc .vmem S2x128x128 .f32) (harg4 : arg4.IsWhole)
    (arg5 : Memref sig .tc .vmem S2x128x128 .f32) (harg5 : arg5.IsWhole)
    (arg6 : Memref sig .tc .vmem S2x128x128 .f32) (harg6 : arg6.IsWhole)
    (arg7 : Memref sig .tc .vmem S2x128x128 .f32) (harg7 : arg7.IsWhole)
    (arg8 : Memref sig .tc .vmem S2x8x384x128 .f32) (harg8 : arg8.IsWhole)
    (arg9 : Memref sig .tc .vmem S2x128x3072 .bf16) (harg9 : arg9.IsWhole)
    (arg10 : Memref sig .tc .vmem S2x8x384x128 .f32) (harg10 : arg10.IsWhole)
    (arg11 : Memref sig .tc .vmem S2x8x384x128 .f32) (harg11 : arg11.IsWhole)
    (hc0 : cond0_0 i) (hc1 : ¬cond0_1 i)
    (x0 : Vec Ideal S2x128x3072 .bf16) (x1 : Vec Ideal S2x128x1024 .bf16) (x2 : Vec Ideal S2x128x1024 .bf16) (x3 : Vec Ideal S2x128x128 .f32) (x4 : Vec Ideal S2x128x128 .f32) (x5 : Vec Ideal S2x128x128 .f32) (x6 : Vec Ideal S2x128x128 .f32) (x7 : Vec Ideal S2x8x384x128 .f32) :
    sout0_A_0 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 x7 = hV x0 x1 x4 x6 x7 :=
  (funext fun j => View.read_writes_junk_apply_eq_canon _ j _ : _ = View.canon _).trans (canonA c i arg1 harg1 arg2 harg2 arg3 harg3 arg4 harg4 arg5 harg5 arg6 harg6 arg7 harg7 arg8 harg8 arg9 harg9 arg10 harg10 arg11 harg11 hc0 hc1 x0 x1 x2 x3 x4 x5 x6 x7).2

set_option maxHeartbeats 400000 in
/-- Case B: the result block is `yV` and the state `hV` of the state before. -/
theorem canonB (c : Dev nD) (i : grid0.Coords)
    (arg1 : Memref sig .tc .vmem S2x128x3072 .bf16) (harg1 : arg1.IsWhole)
    (arg2 : Memref sig .tc .vmem S2x128x1024 .bf16) (harg2 : arg2.IsWhole)
    (arg3 : Memref sig .tc .vmem S2x128x1024 .bf16) (harg3 : arg3.IsWhole)
    (arg4 : Memref sig .tc .vmem S2x128x128 .f32) (harg4 : arg4.IsWhole)
    (arg5 : Memref sig .tc .vmem S2x128x128 .f32) (harg5 : arg5.IsWhole)
    (arg6 : Memref sig .tc .vmem S2x128x128 .f32) (harg6 : arg6.IsWhole)
    (arg7 : Memref sig .tc .vmem S2x128x128 .f32) (harg7 : arg7.IsWhole)
    (arg8 : Memref sig .tc .vmem S2x8x384x128 .f32) (harg8 : arg8.IsWhole)
    (arg9 : Memref sig .tc .vmem S2x128x3072 .bf16) (harg9 : arg9.IsWhole)
    (arg10 : Memref sig .tc .vmem S2x8x384x128 .f32) (harg10 : arg10.IsWhole)
    (arg11 : Memref sig .tc .vmem S2x8x384x128 .f32) (harg11 : arg11.IsWhole)
    (hc0 : ¬cond0_0 i) (hc1 : ¬cond0_1 i)
    (x0 : Vec Ideal S2x128x3072 .bf16) (x1 : Vec Ideal S2x128x1024 .bf16) (x2 : Vec Ideal S2x128x1024 .bf16) (x3 : Vec Ideal S2x128x128 .f32) (x4 : Vec Ideal S2x128x128 .f32) (x5 : Vec Ideal S2x128x128 .f32) (x6 : Vec Ideal S2x128x128 .f32) (x7 : Vec Ideal S2x8x384x128 .f32) (xs0 : Vec Ideal S2x8x384x128 .f32) :
    View.canon (kernelRun0_B (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).1 = yV x0 x1 x2 x3 x4 x5 xs0 ∧
    View.canon (kernelRun0_B (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.2.1 = hV x0 x1 x4 x6 xs0 := by
  obtain ⟨h00, h10, h01, h11, h02, h12, h03, h13, h04, h14, h05, h15, h06, h16, h07, h17,
    e8, es, e00, e10, e01, e11, e02, e12, e03, e13, e04, e14, e05, e15, e06, e16, e07, e17⟩ := piecesB (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0
  have e8' := e8.trans (steps_map (yP arg1 harg1 arg2 harg2 arg3 harg3 arg4 harg4 arg5 harg5 arg6 harg6 x0 x1 x2 x3 x4 x5) (ldH xs0) (ldH_eq xs0) h00 h10 h01 h11 h02 h12 h03 h13 h04 h14 h05 h15 h06 h16 h07 h17
    e00 e10 e01 e11 e02 e12 e03 e13 e04 e14 e05 e15 e06 e16 e07 e17)
  have es' := es.trans ((steps_map (hP arg1 harg1 arg2 harg2 arg5 harg5 arg7 harg7 x0 x1 x4 x6) (ldH xs0) (ldH_eq xs0) h00 h10 h01 h11 h02 h12 h03 h13 h04 h14 h05 h15 h06 h16 h07 h17
    e00 e10 e01 e11 e02 e12 e03 e13 e04 e14 e05 e15 e06 e16 e07 e17))
  refine ⟨(congrArg View.canon e8').trans (canon_steps (yV x0 x1 x2 x3 x4 x5 xs0) (fun n => yP arg1 harg1 arg2 harg2 arg3 harg3 arg4 harg4 arg5 harg5 arg6 harg6 x0 x1 x2 x3 x4 x5 n (ldH xs0 n)) ?_ y_cover),
    (congrArg View.canon es').trans (canon_steps (hV x0 x1 x4 x6 xs0) (fun n => hP arg1 harg1 arg2 harg2 arg5 harg5 arg7 harg7 x0 x1 x4 x6 n (ldH xs0 n)) ?_ h_cover)⟩
  · intro n x
    exact yP_eq x0 x1 x2 x3 x4 x5 xs0 arg1 harg1 arg2 harg2 arg3 harg3 arg4 harg4 arg5 harg5 arg6 harg6 n x
  · intro n x
    exact hP_eq x0 x1 x4 x6 xs0 arg1 harg1 arg2 harg2 arg5 harg5 arg7 harg7 n x

theorem outB_y (c : Dev nD) (i : grid0.Coords)
    (arg1 : Memref sig .tc .vmem S2x128x3072 .bf16) (harg1 : arg1.IsWhole)
    (arg2 : Memref sig .tc .vmem S2x128x1024 .bf16) (harg2 : arg2.IsWhole)
    (arg3 : Memref sig .tc .vmem S2x128x1024 .bf16) (harg3 : arg3.IsWhole)
    (arg4 : Memref sig .tc .vmem S2x128x128 .f32) (harg4 : arg4.IsWhole)
    (arg5 : Memref sig .tc .vmem S2x128x128 .f32) (harg5 : arg5.IsWhole)
    (arg6 : Memref sig .tc .vmem S2x128x128 .f32) (harg6 : arg6.IsWhole)
    (arg7 : Memref sig .tc .vmem S2x128x128 .f32) (harg7 : arg7.IsWhole)
    (arg8 : Memref sig .tc .vmem S2x8x384x128 .f32) (harg8 : arg8.IsWhole)
    (arg9 : Memref sig .tc .vmem S2x128x3072 .bf16) (harg9 : arg9.IsWhole)
    (arg10 : Memref sig .tc .vmem S2x8x384x128 .f32) (harg10 : arg10.IsWhole)
    (arg11 : Memref sig .tc .vmem S2x8x384x128 .f32) (harg11 : arg11.IsWhole)
    (hc0 : ¬cond0_0 i) (hc1 : ¬cond0_1 i)
    (x0 : Vec Ideal S2x128x3072 .bf16) (x1 : Vec Ideal S2x128x1024 .bf16) (x2 : Vec Ideal S2x128x1024 .bf16) (x3 : Vec Ideal S2x128x128 .f32) (x4 : Vec Ideal S2x128x128 .f32) (x5 : Vec Ideal S2x128x128 .f32) (x6 : Vec Ideal S2x128x128 .f32) (x7 : Vec Ideal S2x8x384x128 .f32) (xs0 : Vec Ideal S2x8x384x128 .f32) :
    out0_B_8 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = yV x0 x1 x2 x3 x4 x5 xs0 :=
  (funext fun j => View.read_writes_junk_apply_eq_canon _ j _ : _ = View.canon _).trans (canonB c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).1

theorem outB_h (c : Dev nD) (i : grid0.Coords)
    (arg1 : Memref sig .tc .vmem S2x128x3072 .bf16) (harg1 : arg1.IsWhole)
    (arg2 : Memref sig .tc .vmem S2x128x1024 .bf16) (harg2 : arg2.IsWhole)
    (arg3 : Memref sig .tc .vmem S2x128x1024 .bf16) (harg3 : arg3.IsWhole)
    (arg4 : Memref sig .tc .vmem S2x128x128 .f32) (harg4 : arg4.IsWhole)
    (arg5 : Memref sig .tc .vmem S2x128x128 .f32) (harg5 : arg5.IsWhole)
    (arg6 : Memref sig .tc .vmem S2x128x128 .f32) (harg6 : arg6.IsWhole)
    (arg7 : Memref sig .tc .vmem S2x128x128 .f32) (harg7 : arg7.IsWhole)
    (arg8 : Memref sig .tc .vmem S2x8x384x128 .f32) (harg8 : arg8.IsWhole)
    (arg9 : Memref sig .tc .vmem S2x128x3072 .bf16) (harg9 : arg9.IsWhole)
    (arg10 : Memref sig .tc .vmem S2x8x384x128 .f32) (harg10 : arg10.IsWhole)
    (arg11 : Memref sig .tc .vmem S2x8x384x128 .f32) (harg11 : arg11.IsWhole)
    (hc0 : ¬cond0_0 i) (hc1 : ¬cond0_1 i)
    (x0 : Vec Ideal S2x128x3072 .bf16) (x1 : Vec Ideal S2x128x1024 .bf16) (x2 : Vec Ideal S2x128x1024 .bf16) (x3 : Vec Ideal S2x128x128 .f32) (x4 : Vec Ideal S2x128x128 .f32) (x5 : Vec Ideal S2x128x128 .f32) (x6 : Vec Ideal S2x128x128 .f32) (x7 : Vec Ideal S2x8x384x128 .f32) (xs0 : Vec Ideal S2x8x384x128 .f32) :
    sout0_B_0 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = hV x0 x1 x4 x6 xs0 :=
  (funext fun j => View.read_writes_junk_apply_eq_canon _ j _ : _ = View.canon _).trans (canonB c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2

set_option maxHeartbeats 400000 in
/-- Case C: the result block is `yV` and the state `hV` of the state before. -/
theorem canonC (c : Dev nD) (i : grid0.Coords)
    (arg1 : Memref sig .tc .vmem S2x128x3072 .bf16) (harg1 : arg1.IsWhole)
    (arg2 : Memref sig .tc .vmem S2x128x1024 .bf16) (harg2 : arg2.IsWhole)
    (arg3 : Memref sig .tc .vmem S2x128x1024 .bf16) (harg3 : arg3.IsWhole)
    (arg4 : Memref sig .tc .vmem S2x128x128 .f32) (harg4 : arg4.IsWhole)
    (arg5 : Memref sig .tc .vmem S2x128x128 .f32) (harg5 : arg5.IsWhole)
    (arg6 : Memref sig .tc .vmem S2x128x128 .f32) (harg6 : arg6.IsWhole)
    (arg7 : Memref sig .tc .vmem S2x128x128 .f32) (harg7 : arg7.IsWhole)
    (arg8 : Memref sig .tc .vmem S2x8x384x128 .f32) (harg8 : arg8.IsWhole)
    (arg9 : Memref sig .tc .vmem S2x128x3072 .bf16) (harg9 : arg9.IsWhole)
    (arg10 : Memref sig .tc .vmem S2x8x384x128 .f32) (harg10 : arg10.IsWhole)
    (arg11 : Memref sig .tc .vmem S2x8x384x128 .f32) (harg11 : arg11.IsWhole)
    (hc0 : ¬cond0_0 i) (hc1 : cond0_1 i)
    (x0 : Vec Ideal S2x128x3072 .bf16) (x1 : Vec Ideal S2x128x1024 .bf16) (x2 : Vec Ideal S2x128x1024 .bf16) (x3 : Vec Ideal S2x128x128 .f32) (x4 : Vec Ideal S2x128x128 .f32) (x5 : Vec Ideal S2x128x128 .f32) (x6 : Vec Ideal S2x128x128 .f32) (x7 : Vec Ideal S2x8x384x128 .f32) (xs0 : Vec Ideal S2x8x384x128 .f32) :
    View.canon (kernelRun0_C (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).1 = yV x0 x1 x2 x3 x4 x5 xs0 ∧
    View.canon (kernelRun0_C (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.2.1 = hV x0 x1 x4 x6 xs0 := by
  obtain ⟨h00, h10, h01, h11, h02, h12, h03, h13, h04, h14, h05, h15, h06, h16, h07, h17,
    e8, es, e00, e10, e01, e11, e02, e12, e03, e13, e04, e14, e05, e15, e06, e16, e07, e17⟩ := piecesC (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0
  have e8' := e8.trans (steps_map (yP arg1 harg1 arg2 harg2 arg3 harg3 arg4 harg4 arg5 harg5 arg6 harg6 x0 x1 x2 x3 x4 x5) (ldH xs0) (ldH_eq xs0) h00 h10 h01 h11 h02 h12 h03 h13 h04 h14 h05 h15 h06 h16 h07 h17
    e00 e10 e01 e11 e02 e12 e03 e13 e04 e14 e05 e15 e06 e16 e07 e17)
  have es' := es.trans ((steps_map (hP arg1 harg1 arg2 harg2 arg5 harg5 arg7 harg7 x0 x1 x4 x6) (ldH xs0) (ldH_eq xs0) h00 h10 h01 h11 h02 h12 h03 h13 h04 h14 h05 h15 h06 h16 h07 h17
    e00 e10 e01 e11 e02 e12 e03 e13 e04 e14 e05 e15 e06 e16 e07 e17))
  refine ⟨(congrArg View.canon e8').trans (canon_steps (yV x0 x1 x2 x3 x4 x5 xs0) (fun n => yP arg1 harg1 arg2 harg2 arg3 harg3 arg4 harg4 arg5 harg5 arg6 harg6 x0 x1 x2 x3 x4 x5 n (ldH xs0 n)) ?_ y_cover),
    (congrArg View.canon es').trans (canon_steps (hV x0 x1 x4 x6 xs0) (fun n => hP arg1 harg1 arg2 harg2 arg5 harg5 arg7 harg7 x0 x1 x4 x6 n (ldH xs0 n)) ?_ h_cover)⟩
  · intro n x
    exact yP_eq x0 x1 x2 x3 x4 x5 xs0 arg1 harg1 arg2 harg2 arg3 harg3 arg4 harg4 arg5 harg5 arg6 harg6 n x
  · intro n x
    exact hP_eq x0 x1 x4 x6 xs0 arg1 harg1 arg2 harg2 arg5 harg5 arg7 harg7 n x

theorem outC_y (c : Dev nD) (i : grid0.Coords)
    (arg1 : Memref sig .tc .vmem S2x128x3072 .bf16) (harg1 : arg1.IsWhole)
    (arg2 : Memref sig .tc .vmem S2x128x1024 .bf16) (harg2 : arg2.IsWhole)
    (arg3 : Memref sig .tc .vmem S2x128x1024 .bf16) (harg3 : arg3.IsWhole)
    (arg4 : Memref sig .tc .vmem S2x128x128 .f32) (harg4 : arg4.IsWhole)
    (arg5 : Memref sig .tc .vmem S2x128x128 .f32) (harg5 : arg5.IsWhole)
    (arg6 : Memref sig .tc .vmem S2x128x128 .f32) (harg6 : arg6.IsWhole)
    (arg7 : Memref sig .tc .vmem S2x128x128 .f32) (harg7 : arg7.IsWhole)
    (arg8 : Memref sig .tc .vmem S2x8x384x128 .f32) (harg8 : arg8.IsWhole)
    (arg9 : Memref sig .tc .vmem S2x128x3072 .bf16) (harg9 : arg9.IsWhole)
    (arg10 : Memref sig .tc .vmem S2x8x384x128 .f32) (harg10 : arg10.IsWhole)
    (arg11 : Memref sig .tc .vmem S2x8x384x128 .f32) (harg11 : arg11.IsWhole)
    (hc0 : ¬cond0_0 i) (hc1 : cond0_1 i)
    (x0 : Vec Ideal S2x128x3072 .bf16) (x1 : Vec Ideal S2x128x1024 .bf16) (x2 : Vec Ideal S2x128x1024 .bf16) (x3 : Vec Ideal S2x128x128 .f32) (x4 : Vec Ideal S2x128x128 .f32) (x5 : Vec Ideal S2x128x128 .f32) (x6 : Vec Ideal S2x128x128 .f32) (x7 : Vec Ideal S2x8x384x128 .f32) (xs0 : Vec Ideal S2x8x384x128 .f32) :
    out0_C_8 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = yV x0 x1 x2 x3 x4 x5 xs0 :=
  (funext fun j => View.read_writes_junk_apply_eq_canon _ j _ : _ = View.canon _).trans (canonC c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).1

theorem outC_h (c : Dev nD) (i : grid0.Coords)
    (arg1 : Memref sig .tc .vmem S2x128x3072 .bf16) (harg1 : arg1.IsWhole)
    (arg2 : Memref sig .tc .vmem S2x128x1024 .bf16) (harg2 : arg2.IsWhole)
    (arg3 : Memref sig .tc .vmem S2x128x1024 .bf16) (harg3 : arg3.IsWhole)
    (arg4 : Memref sig .tc .vmem S2x128x128 .f32) (harg4 : arg4.IsWhole)
    (arg5 : Memref sig .tc .vmem S2x128x128 .f32) (harg5 : arg5.IsWhole)
    (arg6 : Memref sig .tc .vmem S2x128x128 .f32) (harg6 : arg6.IsWhole)
    (arg7 : Memref sig .tc .vmem S2x128x128 .f32) (harg7 : arg7.IsWhole)
    (arg8 : Memref sig .tc .vmem S2x8x384x128 .f32) (harg8 : arg8.IsWhole)
    (arg9 : Memref sig .tc .vmem S2x128x3072 .bf16) (harg9 : arg9.IsWhole)
    (arg10 : Memref sig .tc .vmem S2x8x384x128 .f32) (harg10 : arg10.IsWhole)
    (arg11 : Memref sig .tc .vmem S2x8x384x128 .f32) (harg11 : arg11.IsWhole)
    (hc0 : ¬cond0_0 i) (hc1 : cond0_1 i)
    (x0 : Vec Ideal S2x128x3072 .bf16) (x1 : Vec Ideal S2x128x1024 .bf16) (x2 : Vec Ideal S2x128x1024 .bf16) (x3 : Vec Ideal S2x128x128 .f32) (x4 : Vec Ideal S2x128x128 .f32) (x5 : Vec Ideal S2x128x128 .f32) (x6 : Vec Ideal S2x128x128 .f32) (x7 : Vec Ideal S2x8x384x128 .f32) (xs0 : Vec Ideal S2x8x384x128 .f32) :
    sout0_C_0 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = hV x0 x1 x4 x6 xs0 :=
  (funext fun j => View.read_writes_junk_apply_eq_canon _ j _ : _ = View.canon _).trans (canonC c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2

/-- At the last point the state is the second result too. -/
theorem outC_last (c : Dev nD) (i : grid0.Coords)
    (arg1 : Memref sig .tc .vmem S2x128x3072 .bf16) (harg1 : arg1.IsWhole)
    (arg2 : Memref sig .tc .vmem S2x128x1024 .bf16) (harg2 : arg2.IsWhole)
    (arg3 : Memref sig .tc .vmem S2x128x1024 .bf16) (harg3 : arg3.IsWhole)
    (arg4 : Memref sig .tc .vmem S2x128x128 .f32) (harg4 : arg4.IsWhole)
    (arg5 : Memref sig .tc .vmem S2x128x128 .f32) (harg5 : arg5.IsWhole)
    (arg6 : Memref sig .tc .vmem S2x128x128 .f32) (harg6 : arg6.IsWhole)
    (arg7 : Memref sig .tc .vmem S2x128x128 .f32) (harg7 : arg7.IsWhole)
    (arg8 : Memref sig .tc .vmem S2x8x384x128 .f32) (harg8 : arg8.IsWhole)
    (arg9 : Memref sig .tc .vmem S2x128x3072 .bf16) (harg9 : arg9.IsWhole)
    (arg10 : Memref sig .tc .vmem S2x8x384x128 .f32) (harg10 : arg10.IsWhole)
    (arg11 : Memref sig .tc .vmem S2x8x384x128 .f32) (harg11 : arg11.IsWhole)
    (hc0 : ¬cond0_0 i) (hc1 : cond0_1 i)
    (x0 : Vec Ideal S2x128x3072 .bf16) (x1 : Vec Ideal S2x128x1024 .bf16) (x2 : Vec Ideal S2x128x1024 .bf16) (x3 : Vec Ideal S2x128x128 .f32) (x4 : Vec Ideal S2x128x128 .f32) (x5 : Vec Ideal S2x128x128 .f32) (x6 : Vec Ideal S2x128x128 .f32) (x7 : Vec Ideal S2x8x384x128 .f32) (xs0 : Vec Ideal S2x8x384x128 .f32) :
    out0_C_9 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = hV x0 x1 x4 x6 xs0 := by
  have e : (kernelRun0_C (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.1 = [⟨Rect.unit ![0, 0, 0, 0] S2x8x384x128.size inb_S2x8x384x128_S2x8x384x128_0_0_0_0,
      View.readCov arg11.view (kernelRun0_C (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.2.1
        (Rect.unit ![0, 0, 0, 0] S2x8x384x128.size inb_S2x8x384x128_S2x8x384x128_0_0_0_0).toLoadRect⟩] := by
    unfold kernelRun0_C
    rfl
  have hz : (![0, 0, 0, 0] : Fin 4 → ℕ) = fun _ => 0 := funext fun a => by fin_cases a <;> rfl
  refine (funext fun j => View.read_writes_junk_apply_eq_canon _ j _ : _ = View.canon _).trans ?_
  rw [e, View.canon_unit_zero hz, View.readCov_eq_canon', (canonC c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2]
  exact View.ld_unit_zero (S := S2x8x384x128) hz _ _

end Cert.Scan
-- ==== Proof.State.lean ====
/- The carried state and the results' blocks after each grid point, by recursion over the points. -/
module

public import proofs.«01_k».proof.Proof.Point
public import proofs.«01_k».proof.Proof.Gen.KernelIdeal.Value

@[expose] public section

set_option maxRecDepth 16384

noncomputable section

namespace Cert.Scan

open Cert.KernelIdeal Cert.KernelIdeal.Gen Cert.KernelIdeal.Value Idealize.ShloMosaic Idealize.ShloMosaic.TcCoe

variable (m : (ℓ : Loc nD τ sig) → Buf (Elt Ideal) ℓ)

/-- The state that point `n` finds. -/
def stH (c : Dev nD) (n : ℕ) : Vec Ideal S2x8x384x128 .f32 :=
  Nat.rec (motive := fun _ => Vec Ideal S2x8x384x128 .f32) (iblk (F := Ideal) m c 7 ⟨0, lt_of_lt_of_eq (by decide) N_0.symm⟩)
    (fun n h => if hn : n < cfg0.N then
      hV (X0_0 (F := Ideal) m c ⟨n, hn⟩) (iblk (F := Ideal) m c 1 ⟨n, hn⟩) (iblk (F := Ideal) m c 4 ⟨n, hn⟩) (iblk (F := Ideal) m c 6 ⟨n, hn⟩) h
    else h) n

/-- The result block that point `t` leaves. -/
def stY (c : Dev nD) (t : Fin cfg0.N) : Vec Ideal S2x128x3072 .bf16 :=
  yV (X0_0 (F := Ideal) m c t) (iblk (F := Ideal) m c 1 t) (iblk (F := Ideal) m c 2 t) (iblk (F := Ideal) m c 3 t) (iblk (F := Ideal) m c 4 t) (iblk (F := Ideal) m c 5 t) (stH m c t.val)

theorem stH_succ (c : Dev nD) (t : Fin cfg0.N) : stH m c (t.val + 1) =
    hV (X0_0 (F := Ideal) m c t) (iblk (F := Ideal) m c 1 t) (iblk (F := Ideal) m c 4 t) (iblk (F := Ideal) m c 6 t) (stH m c t.val) :=
  dif_pos t.isLt

/-- A point of the last case, -/
theorem point_C (c : Dev nD) (t : Fin cfg0.N) (acc : Vec Ideal S2x128x3072 .bf16 × Vec Ideal S2x8x384x128 .f32 × Vec Ideal S2x8x384x128 .f32)
    (h0 : ¬t.val % 64 = 0) (h1 : t.val % 64 = 63) (ha : acc.2.2 = stH m c t.val) :
    (stAt0 (F := Ideal) m c t.val t.isLt acc).1 = stY m c t ∧ (stAt0 (F := Ideal) m c t.val t.isLt acc).2.2 = stH m c (t.val + 1)
      ∧ (stAt0 (F := Ideal) m c t.val t.isLt acc).2.1 = stH m c (t.val + 1) := by
  have e := stAt0_C (F := Ideal) m c t acc h0 h1
  have ey := outC_y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (X0_0 (F := Ideal) m c t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) acc.2.2
  have eh := outC_h c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (X0_0 (F := Ideal) m c t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) acc.2.2
  have el := outC_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (X0_0 (F := Ideal) m c t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) acc.2.2
  rw [ha] at ey eh el
  rw [ha] at e
  have e1 := congrArg Prod.fst e
  have e2 := congrArg (fun p => p.2.2) e
  have e3 := congrArg (fun p => p.2.1) e
  clear e
  dsimp only at e1 e2 e3
  rw [ey] at e1
  rw [eh] at e2
  rw [el] at e3
  refine ⟨e1.trans ?_, e2.trans ?_, e3.trans ?_⟩
  · rfl
  · exact (stH_succ m c t).symm
  · exact (stH_succ m c t).symm

/-- of the middle case, -/
theorem point_B (c : Dev nD) (t : Fin cfg0.N) (acc : Vec Ideal S2x128x3072 .bf16 × Vec Ideal S2x8x384x128 .f32 × Vec Ideal S2x8x384x128 .f32)
    (h0 : ¬t.val % 64 = 0) (h1 : ¬t.val % 64 = 63) (ha : acc.2.2 = stH m c t.val) :
    (stAt0 (F := Ideal) m c t.val t.isLt acc).1 = stY m c t ∧ (stAt0 (F := Ideal) m c t.val t.isLt acc).2.2 = stH m c (t.val + 1) := by
  have e := stAt0_B (F := Ideal) m c t acc h0 h1
  have ey := outB_y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (X0_0 (F := Ideal) m c t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) acc.2.2
  have eh := outB_h c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (X0_0 (F := Ideal) m c t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) acc.2.2
  rw [ha] at ey eh
  rw [ha] at e
  have e1 := congrArg Prod.fst e
  have e2 := congrArg (fun p => p.2.2) e
  clear e
  dsimp only at e1 e2
  rw [ey] at e1
  rw [eh] at e2
  refine ⟨e1.trans ?_, e2.trans ?_⟩
  · rfl
  · exact (stH_succ m c t).symm

/-- of the first. -/
theorem point_A (c : Dev nD) (t : Fin cfg0.N) (acc : Vec Ideal S2x128x3072 .bf16 × Vec Ideal S2x8x384x128 .f32 × Vec Ideal S2x8x384x128 .f32)
    (h0 : t.val % 64 = 0) (h1 : ¬t.val % 64 = 63) (ha : (iblk (F := Ideal) m c 7 t : Vec Ideal S2x8x384x128 .f32) = stH m c t.val) :
    (stAt0 (F := Ideal) m c t.val t.isLt acc).1 = stY m c t ∧ (stAt0 (F := Ideal) m c t.val t.isLt acc).2.2 = stH m c (t.val + 1) := by
  have e := stAt0_A (F := Ideal) m c t acc h0 h1
  have ey := outA_y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (X0_0 (F := Ideal) m c t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t)
  have eh := outA_h c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (X0_0 (F := Ideal) m c t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t)
  have e1 := congrArg Prod.fst e
  have e2 := congrArg (fun p => p.2.2) e
  clear e
  dsimp only at e1 e2
  rw [ey] at e1
  rw [eh] at e2
  refine ⟨e1.trans ?_, e2.trans ?_⟩
  · rw [stY, ← ha]
  · rw [stH_succ m c t, ← ha]

/-- After every point: the result block and the carried state. -/
theorem all_points (c : Dev nD) : ∀ (n : ℕ) (hn : n < cfg0.N),
    (outsAt0 (F := Ideal) m c n hn).1 = stY m c ⟨n, hn⟩ ∧ (outsAt0 (F := Ideal) m c n hn).2.2 = stH m c (n + 1)
      ∧ (n = 63 → (outsAt0 (F := Ideal) m c n hn).2.1 = stH m c 64)
  | 0, hn => by
    have h := point_A m c ⟨0, hn⟩ junk0 (Nat.zero_mod _) (fun h => by dsimp only at h; omega) rfl
    rw [outsAt0_zero m c hn]
    exact ⟨h.1, h.2, fun h => absurd h (by decide)⟩
  | n + 1, hn => by
    have hN := lt_of_lt_of_eq hn N_0
    have ih := (all_points c n (Nat.lt_of_succ_lt hn)).2.1
    rw [outsAt0_succ m c n hn]
    by_cases h1 : (n + 1) % 64 = 63
    · have h := point_C m c ⟨n + 1, hn⟩ (outsAt0 m c n (Nat.lt_of_succ_lt hn)) (by dsimp only; omega) h1 ih
      refine ⟨h.1, h.2.1, fun e => ?_⟩
      obtain rfl : n = 62 := by omega
      exact h.2.2
    · have h := point_B m c ⟨n + 1, hn⟩ (outsAt0 m c n (Nat.lt_of_succ_lt hn)) (by dsimp only; omega) h1 ih
      exact ⟨h.1, h.2, fun e => by omega⟩

theorem last_state (c : Dev nD) : G9 (F := Ideal) m c = stH m c 64 := by
  exact (G9_last m c).trans ((congrArg (fun p => p.2.1) (outsAt0_sweep (F := Ideal) m c 63 (lt_of_lt_of_eq (by decide) N_0.symm))).symm.trans ((all_points m c 63 _).2.2 rfl))

/-- The first result, at sequence `b`, token `128 s + l` and column `e`. -/
theorem result_y (c : Dev nD) (b : Fin 2) (s : Fin 64) (l : Fin 128) (e : Fin 3072) :
    G8 (F := Ideal) m c (ix3 b ⟨128 * s.val + l.val, by omega⟩ e) = stY m c ⟨s.val, lt_of_lt_of_eq s.isLt N_0.symm⟩ (ix3 b l e) := by
  have hp : pt8Of (ix3 b ⟨128 * s.val + l.val, by omega⟩ e : S2x8192x3072.Idx) = s.val := by
    show 64 * (b.val / 2 - 0) + 1 * ((128 * s.val + l.val) / 128 - 0) + 1 * (e.val / 3072 - 0) = _
    omega
  have hl : loc8Of (ix3 b ⟨128 * s.val + l.val, by omega⟩ e : S2x8192x3072.Idx) = ix3 b l e := by
    funext a
    match a with
    | ⟨0, _⟩ => exact Fin.ext (show b.val % 2 = b.val by omega)
    | ⟨1, _⟩ => exact Fin.ext (show (128 * s.val + l.val) % 128 = l.val by omega)
    | ⟨2, _⟩ => exact Fin.ext (show e.val % 3072 = e.val by omega)
  have hs : s.val < cfg0.N := lt_of_lt_of_eq s.isLt N_0.symm
  have h8 : pt8Of (ix3 b ⟨128 * s.val + l.val, by omega⟩ e : S2x8192x3072.Idx) < cfg0.N := lt_of_eq_of_lt hp hs
  have e1 : G8 (F := Ideal) m c (ix3 b ⟨128 * s.val + l.val, by omega⟩ e)
      = (outsAt0 (F := Ideal) m c (pt8Of (ix3 b ⟨128 * s.val + l.val, by omega⟩ e : S2x8192x3072.Idx)) h8).1 (loc8Of (ix3 b ⟨128 * s.val + l.val, by omega⟩ e : S2x8192x3072.Idx)) :=
    (dif_pos h8).trans (congrFun (congrArg Prod.fst (outsAt0_sweep (F := Ideal) m c _ h8).symm) _)
  rw [e1, (all_points m c _ h8).1, hl]
  congr 2
-- ==== Proof.Blocks.lean ====
module

public import Idealize.ShloMosaic.Lib.Pipeline.ValueKit
public import proofs.«01_k».proof.Proof.Host
public import proofs.«01_k».proof.Proof.State

@[expose] public section

set_option maxRecDepth 16384

noncomputable section

namespace Cert.Scan

open Cert.KernelIdeal Cert.KernelIdeal.Gen Idealize.ShloMosaic Idealize.ShloMosaic.TcCoe

variable (m : (ℓ : Loc nD τ sig) → Buf (Elt Ideal) ℓ)

/-- Chunk `s`'s grid point. -/
abbrev pt (s : Fin 64) : Fin cfg0.N := ⟨s.val, lt_of_lt_of_eq s.isLt N_0.symm⟩

theorem idx0 : ∀ t : Fin cfg0.N, win0_0.index t (0 : Fin 3) = 0 ∧ win0_0.index t (1 : Fin 3) = t.val ∧ win0_0.index t (2 : Fin 3) = 0 := by decide +kernel
theorem idx1 : ∀ t : Fin cfg0.N, win0_1.index t (0 : Fin 3) = 0 ∧ win0_1.index t (1 : Fin 3) = t.val ∧ win0_1.index t (2 : Fin 3) = 3 := by decide +kernel
theorem idx2 : ∀ t : Fin cfg0.N, win0_2.index t (0 : Fin 3) = 0 ∧ win0_2.index t (1 : Fin 3) = t.val ∧ win0_2.index t (2 : Fin 3) = 4 := by decide +kernel
theorem idx3 : ∀ t : Fin cfg0.N, win0_3.index t (0 : Fin 3) = 0 ∧ win0_3.index t (1 : Fin 3) = t.val ∧ win0_3.index t (2 : Fin 3) = 0 := by decide +kernel
theorem idx4 : ∀ t : Fin cfg0.N, win0_4.index t (0 : Fin 3) = 0 ∧ win0_4.index t (1 : Fin 3) = t.val ∧ win0_4.index t (2 : Fin 3) = 0 := by decide +kernel
theorem idx5 : ∀ t : Fin cfg0.N, win0_5.index t (0 : Fin 3) = 0 ∧ win0_5.index t (1 : Fin 3) = t.val ∧ win0_5.index t (2 : Fin 3) = 0 := by decide +kernel
theorem idx6 : ∀ t : Fin cfg0.N, win0_6.index t (0 : Fin 3) = 0 ∧ win0_6.index t (1 : Fin 3) = t.val ∧ win0_6.index t (2 : Fin 3) = 0 := by decide +kernel
theorem idx7 : ∀ t : Fin cfg0.N, win0_7.index t (0 : Fin 4) = 0 ∧ win0_7.index t (1 : Fin 4) = 0 ∧ win0_7.index t (2 : Fin 4) = 0 ∧ win0_7.index t (3 : Fin 4) = 0 := by decide +kernel

theorem blk0_at (c : Dev nD) (s : Fin 64) (b : Fin 2) (l : Fin 128) (e : Fin 3072) :
    (X0_0 (F := Ideal) m c (pt s) : Vec Ideal S2x128x3072 .bf16) (ix3 b l e) = sX (args m c) s b l e := by
  have e1 : (X0_0 (F := Ideal) m c (pt s) : Vec Ideal S2x128x3072 .bf16) (ix3 b l e)
      = (V (F := Ideal) m c main_v48 : Vec Ideal S2x8192x5120 .bf16) (ix3 b (tok s l) ⟨e.val, by omega⟩) := by
    unfold X0_0 Pipeline.Window.fill
    rw [dif_pos (moved0_0 (pt s) (ix3 b l e))]
    blk_ext! [iblk, idx0 (pt s)]
  exact e1.trans (v48_at m c b (tok s l) _)

theorem blk1_at (c : Dev nD) (s : Fin 64) (b : Fin 2) (l : Fin 128) (f : Fin 1024) :
    (iblk (F := Ideal) m c 1 (pt s) : Vec Ideal S2x128x1024 .bf16) (ix3 b l f) = sB (args m c) s b l f := by
  have e1 : (iblk (F := Ideal) m c 1 (pt s) : Vec Ideal S2x128x1024 .bf16) (ix3 b l f)
      = (V (F := Ideal) m c main_v48 : Vec Ideal S2x8192x5120 .bf16) (ix3 b (tok s l) ⟨3072 + f.val, by omega⟩) := by
    blk_ext! [iblk, idx1 (pt s)]
  exact e1.trans (v48_at m c b (tok s l) _)

theorem blk2_at (c : Dev nD) (s : Fin 64) (b : Fin 2) (l : Fin 128) (f : Fin 1024) :
    (iblk (F := Ideal) m c 2 (pt s) : Vec Ideal S2x128x1024 .bf16) (ix3 b l f) = sC (args m c) s b l f := by
  have e1 : (iblk (F := Ideal) m c 2 (pt s) : Vec Ideal S2x128x1024 .bf16) (ix3 b l f)
      = (V (F := Ideal) m c main_v48 : Vec Ideal S2x8192x5120 .bf16) (ix3 b (tok s l) ⟨4096 + f.val, by omega⟩) := by
    blk_ext! [iblk, idx2 (pt s)]
  exact e1.trans (v48_at m c b (tok s l) _)

theorem blk7_at (c : Dev nD) (s : Fin 64) (b : Fin 2) (g : Fin 8) (r : Fin 384) (n : Fin 128) :
    (iblk (F := Ideal) m c 7 (pt s) : Vec Ideal S2x8x384x128 .f32) (ix4 b g r n) = (args m c).h0 (ix5 b g ⟨r.val / 64, by omega⟩ ⟨r.val % 64, by omega⟩ n) := by
  have e1 : (iblk (F := Ideal) m c 7 (pt s) : Vec Ideal S2x8x384x128 .f32) (ix4 b g r n)
      = (V (F := Ideal) m c main_v47 : Vec Ideal S2x8x384x128 .f32) (ix4 b g r n) := by
    blk_ext! [iblk, idx7 (pt s)]
  exact e1.trans (v47_at m c b g r n)

end Cert.Scan
-- ==== Proof.Rows.lean ====
module

public import Idealize.ShloMosaic.Lib.Pipeline.ValueKit
public import proofs.«01_k».proof.Proof.Host
public import proofs.«01_k».proof.Proof.State

@[expose] public section

set_option maxRecDepth 16384

noncomputable section

namespace Cert.Scan

open Cert.KernelIdeal Cert.KernelIdeal.Gen Idealize.ShloMosaic Idealize.ShloMosaic.TcCoe

variable (m : (ℓ : Loc nD τ sig) → Buf (Elt Ideal) ℓ)

/-- Two reshapes of a chunked array, read at a token. -/
theorem chunked (X : Vec Ideal S128x128x128 .f32) (b : Fin 2) (s : Fin 64) (l k : Fin 128) :
    shapeCast S2x8192x128 (shapeCast S16384x128 X shapeCasts_S128x128x128_S16384x128) shapeCasts_S16384x128_S2x8192x128 (ix3 b (tok s l) k)
      = X (ix3 (blkOf b s) l k) := by
  pointwise
  refine congrArg X ?_
  congr 1 <;> exact Fin.ext (by dsimp only; omega)

/-- The same with the last two axes exchanged first. -/
theorem chunkedT (X : Vec Ideal S128x128x128 .f32) (b : Fin 2) (s : Fin 64) (l k : Fin 128) :
    shapeCast S2x8192x128 (shapeCast S16384x128 (transpose S128x128x128 [0, 2, 1] X transposes_S128x128x128_S128x128x128_0_2_1)
      shapeCasts_S128x128x128_S16384x128) shapeCasts_S16384x128_S2x8192x128 (ix3 b (tok s k) l)
      = X (ix3 (blkOf b s) l k) := by
  rw [chunked]
  pointwise

theorem v49_eq (c : Dev nD) : (V (F := Ideal) m c main_v49 : Vec Ideal S2x8192x128 .f32)
    = shapeCast S2x8192x128 (shapeCast S16384x128 (transpose S128x128x128 [0, 2, 1] (V (F := Ideal) m c main_v20 : Vec Ideal S128x128x128 .f32) transposes_S128x128x128_S128x128x128_0_2_1)
      shapeCasts_S128x128x128_S16384x128) shapeCasts_S16384x128_S2x8192x128 := by
  unfold V
  after_reads_simp
  rfl

theorem v50_eq (c : Dev nD) : (V (F := Ideal) m c main_v50 : Vec Ideal S2x8192x128 .f32)
    = shapeCast S2x8192x128 (shapeCast S16384x128 (V (F := Ideal) m c main_v30 : Vec Ideal S128x128x128 .f32)
      shapeCasts_S128x128x128_S16384x128) shapeCasts_S16384x128_S2x8192x128 := by
  unfold V
  after_reads_simp
  rfl

theorem v51_eq (c : Dev nD) : (V (F := Ideal) m c main_v51 : Vec Ideal S2x8192x128 .f32)
    = shapeCast S2x8192x128 (shapeCast S16384x128 (transpose S128x128x128 [0, 2, 1] (V (F := Ideal) m c main_v30 : Vec Ideal S128x128x128 .f32) transposes_S128x128x128_S128x128x128_0_2_1)
      shapeCasts_S128x128x128_S16384x128) shapeCasts_S16384x128_S2x8192x128 := by
  unfold V
  after_reads_simp
  rfl

theorem v52_eq (c : Dev nD) : (V (F := Ideal) m c main_v52 : Vec Ideal S2x8192x128 .f32)
    = shapeCast S2x8192x128 (shapeCast S16384x128 (transpose S128x128x128 [0, 2, 1] (V (F := Ideal) m c main_v39 : Vec Ideal S128x128x128 .f32) transposes_S128x128x128_S128x128x128_0_2_1)
      shapeCasts_S128x128x128_S16384x128) shapeCasts_S16384x128_S2x8192x128 := by
  unfold V
  after_reads_simp
  rfl

end Cert.Scan
-- ==== Proof.Lanes.lean ====
module

public import Idealize.ShloMosaic.Lib.Pipeline.ValueKit
public import proofs.«01_k».proof.Proof.Blocks
public import proofs.«01_k».proof.Proof.Rows

@[expose] public section

set_option maxRecDepth 16384

noncomputable section

namespace Cert.Scan

open Cert.KernelIdeal Cert.KernelIdeal.Gen Idealize.ShloMosaic Idealize.ShloMosaic.TcCoe

variable (m : (ℓ : Loc nD τ sig) → Buf (Elt Ideal) ℓ)

theorem read3 (X : Vec Ideal S2x8192x128 .f32) (s : Fin 64) (b : Fin 2) (l k : Fin 128) :
    (((cfg0.win 3).blk (pt s)).view.read (Elt Ideal) X : Vec Ideal S2x128x128 .f32) (ix3 b l k) = X (ix3 b (tok s l) k) := by
  blk_ext! [idx3 (pt s)]

theorem row3_at (c : Dev nD) (s : Fin 64) (b : Fin 2) (l k : Fin 128) :
    (iblk (F := Ideal) m c 3 (pt s) : Vec Ideal S2x128x128 .f32) (ix3 b l k)
      = (V (F := Ideal) m c main_v49 : Vec Ideal S2x8192x128 .f32) (ix3 b (tok s l) k) :=
  read3 (V (F := Ideal) m c main_v49 : Vec Ideal S2x8192x128 .f32) s b l k

theorem read4 (X : Vec Ideal S2x8192x128 .f32) (s : Fin 64) (b : Fin 2) (l k : Fin 128) :
    (((cfg0.win 4).blk (pt s)).view.read (Elt Ideal) X : Vec Ideal S2x128x128 .f32) (ix3 b l k) = X (ix3 b (tok s l) k) := by
  blk_ext! [idx4 (pt s)]

theorem row4_at (c : Dev nD) (s : Fin 64) (b : Fin 2) (l k : Fin 128) :
    (iblk (F := Ideal) m c 4 (pt s) : Vec Ideal S2x128x128 .f32) (ix3 b l k)
      = (V (F := Ideal) m c main_v50 : Vec Ideal S2x8192x128 .f32) (ix3 b (tok s l) k) :=
  read4 (V (F := Ideal) m c main_v50 : Vec Ideal S2x8192x128 .f32) s b l k

theorem read5 (X : Vec Ideal S2x8192x128 .f32) (s : Fin 64) (b : Fin 2) (l k : Fin 128) :
    (((cfg0.win 5).blk (pt s)).view.read (Elt Ideal) X : Vec Ideal S2x128x128 .f32) (ix3 b l k) = X (ix3 b (tok s l) k) := by
  blk_ext! [idx5 (pt s)]

theorem row5_at (c : Dev nD) (s : Fin 64) (b : Fin 2) (l k : Fin 128) :
    (iblk (F := Ideal) m c 5 (pt s) : Vec Ideal S2x128x128 .f32) (ix3 b l k)
      = (V (F := Ideal) m c main_v51 : Vec Ideal S2x8192x128 .f32) (ix3 b (tok s l) k) :=
  read5 (V (F := Ideal) m c main_v51 : Vec Ideal S2x8192x128 .f32) s b l k

theorem read6 (X : Vec Ideal S2x8192x128 .f32) (s : Fin 64) (b : Fin 2) (l k : Fin 128) :
    (((cfg0.win 6).blk (pt s)).view.read (Elt Ideal) X : Vec Ideal S2x128x128 .f32) (ix3 b l k) = X (ix3 b (tok s l) k) := by
  blk_ext! [idx6 (pt s)]

theorem row6_at (c : Dev nD) (s : Fin 64) (b : Fin 2) (l k : Fin 128) :
    (iblk (F := Ideal) m c 6 (pt s) : Vec Ideal S2x128x128 .f32) (ix3 b l k)
      = (V (F := Ideal) m c main_v52 : Vec Ideal S2x8192x128 .f32) (ix3 b (tok s l) k) :=
  read6 (V (F := Ideal) m c main_v52 : Vec Ideal S2x8192x128 .f32) s b l k

theorem blk3_at (c : Dev nD) (s : Fin 64) (b : Fin 2) (l : Fin 128) (k : Fin 48) :
    (iblk (F := Ideal) m c 3 (pt s) : Vec Ideal S2x128x128 .f32) (ix3 b (lane k) l) = sDt (args m c) s b l k :=
  (row3_at m c s b (lane k) l).trans ((congrFun (v49_eq m c) (ix3 b (tok s (lane k)) l)).trans ((chunkedT _ b s l (lane k)).trans (v20_at m c b s l k)))

theorem blk4_at (c : Dev nD) (s : Fin 64) (b : Fin 2) (l : Fin 128) (k : Fin 48) :
    (iblk (F := Ideal) m c 4 (pt s) : Vec Ideal S2x128x128 .f32) (ix3 b l (lane k)) = sCu (args m c) s b l k :=
  (row4_at m c s b l (lane k)).trans ((congrFun (v50_eq m c) (ix3 b (tok s l) (lane k))).trans ((chunked _ b s l (lane k)).trans (v30_at m c b s l k)))

theorem blk5_at (c : Dev nD) (s : Fin 64) (b : Fin 2) (l : Fin 128) (k : Fin 48) :
    (iblk (F := Ideal) m c 5 (pt s) : Vec Ideal S2x128x128 .f32) (ix3 b (lane k) l) = sCu (args m c) s b l k :=
  (row5_at m c s b (lane k) l).trans ((congrFun (v51_eq m c) (ix3 b (tok s (lane k)) l)).trans ((chunkedT _ b s l (lane k)).trans (v30_at m c b s l k)))

theorem blk6_at (c : Dev nD) (s : Fin 64) (b : Fin 2) (l : Fin 128) (k : Fin 48) :
    (iblk (F := Ideal) m c 6 (pt s) : Vec Ideal S2x128x128 .f32) (ix3 b (lane k) l) = sDt (args m c) s b l k * Ideal.exp (sCu (args m c) s b 127 k - sCu (args m c) s b l k) :=
  (row6_at m c s b (lane k) l).trans ((congrFun (v52_eq m c) (ix3 b (tok s (lane k)) l)).trans ((chunkedT _ b s l (lane k)).trans (v39_at m c b s l k)))

end Cert.Scan
-- ==== Proof.Chunks.lean ====
module

public import Idealize.ShloMosaic.Lib.Pipeline.ValueKit
public import proofs.«01_k».proof.Proof.Lanes

@[expose] public section

set_option maxRecDepth 16384

noncomputable section

namespace Cert.Scan

open Cert.KernelIdeal Cert.KernelIdeal.Gen Idealize.ShloMosaic Idealize.ShloMosaic.TcCoe

variable (m : (ℓ : Loc nD τ sig) → Buf (Elt Ideal) ℓ)

theorem eq_ix4' {n0 n1 n2 n3 : ℕ} (i : (⟨4, ![n0, n1, n2, n3]⟩ : Shape).Idx) : i = ix4 (i 0) (i 1) (i 2) (i 3) := by
  funext a
  match a with
  | ⟨0, _⟩ => rfl
  | ⟨1, _⟩ => rfl
  | ⟨2, _⟩ => rfl
  | ⟨3, _⟩ => rfl

/-- The state before chunk `n`. -/
theorem state_eq (c : Dev nD) : ∀ n ≤ 64, stH m c n = sSt (args m c) n
  | 0, _ => funext fun i => by
    rw [eq_ix4' i]
    exact blk7_at m c 0 (i 0) (i 1) (i 2) (i 3)
  | n + 1, h => by
    have ih := state_eq c n (by omega)
    rw [stH_succ m c (pt ⟨n, h⟩), sSt_succ (args m c) ⟨n, h⟩]
    funext i
    rw [eq_ix4' i]
    show hE _ _ _ _ _ (i 0) (i 1) (i 2) (i 3) = _
    unfold hE sH
    dsimp only [pt]
    rw [ih]
    congr 1
    · congr 2
      exact blk4_at m c ⟨n, h⟩ (i 0) 127 ⟨_, _⟩
    · refine Finset.sum_congr rfl fun s' _ => ?_
      refine congrArg₂ (fun x y : EReal => x * y) (congrArg₂ (fun x y : EReal => x * y) ?_ ?_) ?_
      · exact blk0_at m c ⟨n, h⟩ (i 0) s' _
      · exact blk6_at m c ⟨n, h⟩ (i 0) s' ⟨_, _⟩
      · exact blk1_at m c ⟨n, h⟩ (i 0) s' _

/-- The result block's formula at blocks that hold the chunk's data. -/
theorem yE_eq (A : Args) (s : Fin 64) (x0 : Vec Ideal S2x128x3072 .bf16) (x1 x2 : Vec Ideal S2x128x1024 .bf16) (x3 x4 x5 : Vec Ideal S2x128x128 .f32)
    (h : Vec Ideal S2x8x384x128 .f32) (h0 : ∀ b l e, x0 (ix3 b l e) = sX A s b l e) (h1 : ∀ b l f, x1 (ix3 b l f) = sB A s b l f)
    (h2 : ∀ b l f, x2 (ix3 b l f) = sC A s b l f) (h3 : ∀ b l k, x3 (ix3 b (lane k) l) = sDt A s b l k)
    (h4 : ∀ b l k, x4 (ix3 b l (lane k)) = sCu A s b l k) (h5 : ∀ b l k, x5 (ix3 b (lane k) l) = sCu A s b l k)
    (b : Fin 2) (l : Fin 128) (e : Fin 3072) : yE x0 x1 x2 x3 x4 x5 h b l e = sY A s h b l e := by
  unfold yE sY
  refine congrArg₂ (fun x y : EReal => x + y) ?_ ?_
  · refine Finset.sum_congr rfl fun s' _ => ?_
    refine congrArg₂ (fun x y : EReal => x * y) (congrArg₂ (fun x y : EReal => x * y) (congrArg₂ (fun x y : EReal => x * y) ?_ ?_) ?_) ?_
    · exact Finset.sum_congr rfl fun n _ => congrArg₂ (fun x y : EReal => x * y) (h2 b l _) (h1 b s' _)
    · refine congrArg Ideal.exp ?_
      refine if_congr Iff.rfl (congrArg₂ (fun x y : EReal => x - y) ?_ ?_) rfl
      · exact h4 b l ⟨_, _⟩
      · exact h5 b s' ⟨_, _⟩
    · exact h3 b s' ⟨_, _⟩
    · exact h0 b s' e
  · refine congrArg₂ (fun x y : EReal => x * y) ?_ ?_
    · exact Finset.sum_congr rfl fun n _ => congrArg₂ (fun x y : EReal => x * y) (h2 b l _) rfl
    · exact congrArg Ideal.exp (h4 b l ⟨_, _⟩)

/-- The result block of chunk `s`. -/
theorem result_eq (c : Dev nD) (s : Fin 64) (b : Fin 2) (l : Fin 128) (e : Fin 3072) :
    stY m c (pt s) (ix3 b l e) = sY (args m c) s (sSt (args m c) s.val) b l e := by
  unfold stY
  rw [state_eq m c s.val (by have := s.isLt; omega)]
  exact yE_eq (args m c) s _ _ _ _ _ _ _ (blk0_at m c s) (blk1_at m c s) (blk2_at m c s) (blk3_at m c s) (blk4_at m c s) (blk5_at m c s) b l e

end Cert.Scan
-- ==== Proof.RefAt.lean ====
module

public import proofs.«01_k».proof.Proof.Spec
public import proofs.«01_k».proof.Proof.Gen.ReferenceIdeal.Step

@[expose] public section

set_option maxRecDepth 16384

noncomputable section

namespace Cert.Scan

open Cert.ReferenceIdeal Cert.ReferenceIdeal.Step Idealize.ShloMosaic Idealize.ShloMosaic.TcCoe

variable (A : Args)

/-- Head `j` of group `g`, -/
abbrev head (g : Fin 8) (j : Fin 6) : Fin 48 := ⟨g.val * 6 + j.val, by omega⟩
/-- its feature `p` among all features, -/
abbrev feat (g : Fin 8) (j : Fin 6) (p : Fin 64) : Fin 3072 := ⟨g.val * 384 + j.val * 64 + p.val, by omega⟩
/-- that among the group's, -/
abbrev feat' (j : Fin 6) (p : Fin 64) : Fin 384 := ⟨j.val * 64 + p.val, by omega⟩
/-- and the group's state column `n` among all. -/
abbrev col (g : Fin 8) (n : Fin 128) : Fin 1024 := ⟨g.val * 128 + n.val, by omega⟩

theorem fin_congr {n : ℕ} {a b : ℕ} (ha : a < n) (hb : b < n) (e : a = b) : (⟨a, ha⟩ : Fin n) = ⟨b, hb⟩ := Fin.ext e

theorem tok_eq (s : Fin 64) (l : Fin 128) (h : s.val * 128 + l.val < 8192) : (⟨s.val * 128 + l.val, h⟩ : Fin 8192) = tok s l :=
  fin_congr _ _ (by omega)

/-! The reference's arrays, chunk by chunk, at an index. -/

theorem ref_dt (s : Fin 64) (b : Fin 2) (l : Fin 128) (g : Fin 8) (j : Fin 6) :
    (A_main_v14 (F := Ideal) A.act A.raw A.bias A.alog : Vec Ideal S2x8192x8x6 .f32) (ix4 b (tok s l) g j) = sDt A s b l (head g j) := by
  unfold sDt sV
  pointwise [A_main_v14, A_main_v13, A_main_v12, A_main_v11, A_main_call0_v11, A_main_call0_v10, A_main_call0_v9, A_main_call0_v8, A_main_call0_v7, A_main_call0_v6, A_main_call0_v4, A_main_call0_v3, A_main_call0_v1, A_main_v10, A_main_v9, A_main_v8, K_main_call0_v5, K_main_call0_v2, K_main_call0_v0, K_main_call0_cst]
  exact if_neg (fun h => h rfl)

theorem ref_a (b : Fin 2) (t : Fin 8192) (g : Fin 8) (j : Fin 6) :
    (A_main_v21 (F := Ideal) A.act A.raw A.bias A.alog : Vec Ideal S2x8192x8x6 .f32) (ix4 b t g j) = -Ideal.exp (A.alog (ix2 0 (head g j))) := by
  pointwise [A_main_v21, A_main_v20, A_main_v19, A_main_v18, A_main_v17, A_main_v16, A_main_v15]

theorem ref_x (s : Fin 64) (b : Fin 2) (l : Fin 128) (g : Fin 8) (j : Fin 6) (p : Fin 64) :
    (A_main_v30 (F := Ideal) A.act A.raw A.bias A.alog : Vec Ideal S64x2x128x8x6x64 .f32) (ix6 s b l g j p)
      = sX A s b l (feat g j p) * sDt A s b l (head g j) := by
  have e : (A_main_v30 (F := Ideal) A.act A.raw A.bias A.alog : Vec Ideal S64x2x128x8x6x64 .f32) (ix6 s b l g j p)
      = A.act (ix2 ⟨b.val * 8192 + (s.val * 128 + l.val), by omega⟩ ⟨g.val * 384 + j.val * 64 + p.val, by omega⟩)
        * (A_main_v14 (F := Ideal) A.act A.raw A.bias A.alog : Vec Ideal S2x8192x8x6 .f32) (ix4 b ⟨s.val * 128 + l.val, by omega⟩ g j) := by
    pointwise [A_main_v30, A_main_v29, A_main_v25, A_main_v24, A_main_v23, A_main_v3, A_main_v2, A_main_v1, A_main_v0]
  rw [e, tok_eq, ref_dt]
  unfold sX
  rw [fin_congr (n := 16384) (a := b.val * 8192 + (s.val * 128 + l.val)) (b := 8192 * b.val + (128 * s.val + l.val)) _ (by omega) (by omega)]

theorem ref_da (s : Fin 64) (b : Fin 2) (l : Fin 128) (g : Fin 8) (j : Fin 6) :
    (A_main_v32 (F := Ideal) A.act A.raw A.bias A.alog : Vec Ideal S64x2x128x8x6 .f32) (ix5 s b l g j) = sDa A s b l (head g j) := by
  have e : (A_main_v32 (F := Ideal) A.act A.raw A.bias A.alog : Vec Ideal S64x2x128x8x6 .f32) (ix5 s b l g j)
      = @HMul.hMul EReal EReal EReal instHMul ((A_main_v14 (F := Ideal) A.act A.raw A.bias A.alog : Vec Ideal S2x8192x8x6 .f32) (ix4 b ⟨s.val * 128 + l.val, by omega⟩ g j))
        ((A_main_v21 (F := Ideal) A.act A.raw A.bias A.alog : Vec Ideal S2x8192x8x6 .f32) (ix4 b ⟨s.val * 128 + l.val, by omega⟩ g j)) := by
    pointwise [A_main_v32, A_main_v31, A_main_v22]
  rw [e, tok_eq, ref_dt, ref_a]
  rfl

theorem ref_B (s : Fin 64) (b : Fin 2) (l : Fin 128) (g : Fin 8) (n : Fin 128) :
    (A_main_v34 (F := Ideal) A.act A.raw A.bias A.alog : Vec Ideal S64x2x128x8x128 .f32) (ix5 s b l g n) = sB A s b l (col g n) := by
  unfold sB
  rw [show row b s l = ⟨b.val * 8192 + (s.val * 128 + l.val), by omega⟩ from fin_congr _ _ (by omega)]
  pointwise [A_main_v34, A_main_v33, A_main_v5, A_main_v4, A_main_v1, A_main_v0]

theorem ref_C (s : Fin 64) (b : Fin 2) (l : Fin 128) (g : Fin 8) (n : Fin 128) :
    (A_main_v36 (F := Ideal) A.act A.raw A.bias A.alog : Vec Ideal S64x2x128x8x128 .f32) (ix5 s b l g n) = sC A s b l (col g n) := by
  unfold sC
  rw [show row b s l = ⟨b.val * 8192 + (s.val * 128 + l.val), by omega⟩ from fin_congr _ _ (by omega)]
  pointwise [A_main_v36, A_main_v35, A_main_v7, A_main_v6, A_main_v1, A_main_v0]

end Cert.Scan
-- ==== Proof.RefStep.lean ====
module

public import Idealize.ShloMosaic.Lib.WordCmp
public import Idealize.ShloMosaic.Lib.DynamicIndex
public import proofs.«01_k».proof.Proof.RefAt

@[expose] public section

set_option maxRecDepth 16384

noncomputable section

namespace Cert.Scan

open Cert.ReferenceIdeal Cert.ReferenceIdeal.Gen Cert.ReferenceIdeal.Step Idealize.ShloMosaic Idealize.ShloMosaic.TcCoe

variable (A : Args) (q : State Ideal)

/-! One trip of the reference's loop at an index. -/

theorem toInt_ofNat (j : Fin 64) : (BitVec.ofNat 32 j.val).toInt = (j.val : Int) := by
  have hj := j.isLt
  rw [BitVec.toInt_eq_toNat_of_lt (by rw [BitVec.toNat_ofNat]; omega), BitVec.toNat_ofNat]
  omega

theorem b6_at (j : Fin 64) (b : Fin 2) (l : Fin 128) (g : Fin 8) (r : Fin 6) (p : Fin 64) :
    (b6 (F := Ideal) j.val q : Vec Ideal S2x128x8x6x64 .f32) (ix5 b l g r p) = (q.main_v38_0 : Vec Ideal S64x2x128x8x6x64 .f32) (ix6 j b l g r p) := by
  have e : (b6 (F := Ideal) j.val q : Vec Ideal S2x128x8x6x64 .f32) (ix5 b l g r p) = (b5 (F := Ideal) j.val q : Vec Ideal S1x2x128x8x6x64 .f32) (ix6 0 b l g r p) := by
    pointwise [b6]
  have hoff : S64x2x128x8x6x64.Slices ![j.val, 0, 0, 0, 0, 0] S1x2x128x8x6x64 := ⟨rfl, fun a => by have := j.isLt; fin_cases a <;> simp <;> omega⟩
  rw [e, b5, Host.dynamicSlice_eq_extractStridedSlice _ _ _ ![j.val, 0, 0, 0, 0, 0] _ hoff (fun a => by fin_cases a <;> first | exact toInt_ofNat j | rfl)]
  pointwise

theorem b12_at (j : Fin 64) (b : Fin 2) (l : Fin 128) (g : Fin 8) (r : Fin 6) :
    (b12 (F := Ideal) j.val q : Vec Ideal S2x128x8x6 .f32) (ix4 b l g r) = (q.main_v38_1 : Vec Ideal S64x2x128x8x6 .f32) (ix5 j b l g r) := by
  have e : (b12 (F := Ideal) j.val q : Vec Ideal S2x128x8x6 .f32) (ix4 b l g r) = (b11 (F := Ideal) j.val q : Vec Ideal S1x2x128x8x6 .f32) (ix5 0 b l g r) := by
    pointwise [b12]
  have hoff : S64x2x128x8x6.Slices ![j.val, 0, 0, 0, 0] S1x2x128x8x6 := ⟨rfl, fun a => by have := j.isLt; fin_cases a <;> simp <;> omega⟩
  rw [e, b11, Host.dynamicSlice_eq_extractStridedSlice _ _ _ ![j.val, 0, 0, 0, 0] _ hoff (fun a => by fin_cases a <;> first | exact toInt_ofNat j | rfl)]
  pointwise

theorem b18_at (j : Fin 64) (b : Fin 2) (l : Fin 128) (g : Fin 8) (n : Fin 128) :
    (b18 (F := Ideal) j.val q : Vec Ideal S2x128x8x128 .f32) (ix4 b l g n) = (q.main_v38_2 : Vec Ideal S64x2x128x8x128 .f32) (ix5 j b l g n) := by
  have e : (b18 (F := Ideal) j.val q : Vec Ideal S2x128x8x128 .f32) (ix4 b l g n) = (b17 (F := Ideal) j.val q : Vec Ideal S1x2x128x8x128 .f32) (ix5 0 b l g n) := by
    pointwise [b18]
  have hoff : S64x2x128x8x128.Slices ![j.val, 0, 0, 0, 0] S1x2x128x8x128 := ⟨rfl, fun a => by have := j.isLt; fin_cases a <;> simp <;> omega⟩
  rw [e, b17, Host.dynamicSlice_eq_extractStridedSlice _ _ _ ![j.val, 0, 0, 0, 0] _ hoff (fun a => by fin_cases a <;> first | exact toInt_ofNat j | rfl)]
  pointwise

theorem b24_at (j : Fin 64) (b : Fin 2) (l : Fin 128) (g : Fin 8) (n : Fin 128) :
    (b24 (F := Ideal) j.val q : Vec Ideal S2x128x8x128 .f32) (ix4 b l g n) = (q.main_v38_3 : Vec Ideal S64x2x128x8x128 .f32) (ix5 j b l g n) := by
  have e : (b24 (F := Ideal) j.val q : Vec Ideal S2x128x8x128 .f32) (ix4 b l g n) = (b23 (F := Ideal) j.val q : Vec Ideal S1x2x128x8x128 .f32) (ix5 0 b l g n) := by
    pointwise [b24]
  have hoff : S64x2x128x8x128.Slices ![j.val, 0, 0, 0, 0] S1x2x128x8x128 := ⟨rfl, fun a => by have := j.isLt; fin_cases a <;> simp <;> omega⟩
  rw [e, b23, Host.dynamicSlice_eq_extractStridedSlice _ _ _ ![j.val, 0, 0, 0, 0] _ hoff (fun a => by fin_cases a <;> first | exact toInt_ofNat j | rfl)]
  pointwise

theorem b27_at (j : ℕ) (b : Fin 2) (l : Fin 128) (g : Fin 8) (r : Fin 6) :
    (b27 (F := Ideal) j q : Vec Ideal S2x128x8x6 .f32) (ix4 b l g r) = pre (fun l' => (b12 (F := Ideal) j q : Vec Ideal S2x128x8x6 .f32) (ix4 b l' g r)) l := by
  unfold b27
  exact cum4 _ _ (fun i => by pointwise [b26, b25]) _ _ b l g r

theorem sel_ge (l s : Fin 128) (a b : EReal) :
    Scalar.select (IntOp.cmpi .sge (BitVec.ofNat 32 l.val) (BitVec.ofNat 32 s.val)) a b = if s.val ≤ l.val then a else b := by
  rw [WordCmp.cmpi_sge_ofNat (by have := l.isLt; omega) (by have := s.isLt; omega)]
  by_cases h : s.val ≤ l.val <;> simp [Scalar.select, h]

theorem b38_at (j : ℕ) (b : Fin 2) (l s : Fin 128) (g : Fin 8) (r : Fin 6) :
    (b38 (F := Ideal) j q : Vec Ideal S2x128x128x8x6 .f32) (ix5 b l s g r)
      = Ideal.exp (if s.val ≤ l.val then (b27 (F := Ideal) j q : Vec Ideal S2x128x8x6 .f32) (ix4 b l g r) - (b27 (F := Ideal) j q : Vec Ideal S2x128x8x6 .f32) (ix4 b s g r) else low) := by
  pointwise [b38, b37, b36, b35, b34, b33, b32, b31, b30, b29, b28, K_main_v28, K_main_v27, K_main_call1_v5, K_main_call1_c_0, K_main_call1_v4, K_main_call1_v3, K_main_call1_v2, K_main_call1_v1, K_main_call1_v0, K_main_call1_c, K_main_v26, K_main_c]
  refine congrArg Ideal.exp ?_
  have e : IntOp.addi (BitVec.ofNat 32 l.val) 0#32 = BitVec.ofNat 32 l.val := BitVec.add_zero _
  rw [e, WordCmp.cmpi_sge_ofNat (by have := l.isLt; omega) (by have := s.isLt; omega)]
  by_cases h : s.val ≤ l.val <;> simp [Scalar.select, h]

theorem b45_at (j : ℕ) (b : Fin 2) (l : Fin 128) (g : Fin 8) (r : Fin 6) (p : Fin 64) :
    (b45 (F := Ideal) j q : Vec Ideal S2x128x8x6x64 .f32) (ix5 b l g r p)
      = ∑ x : Fin 128, (b6 (F := Ideal) j q : Vec Ideal S2x128x8x6x64 .f32) (ix5 b x g r p)
          * ((∑ n : Fin 128, (b18 (F := Ideal) j q : Vec Ideal S2x128x8x128 .f32) (ix4 b x g n) * (b24 (F := Ideal) j q : Vec Ideal S2x128x8x128 .f32) (ix4 b l g n) : EReal)
            * (b38 (F := Ideal) j q : Vec Ideal S2x128x128x8x6 .f32) (ix5 b l x g r) : EReal) := by
  pointwise [b45, b44, b43, b42, b41, b40, b39]

theorem b51_at (j : ℕ) (b : Fin 2) (l : Fin 128) (g : Fin 8) (r : Fin 6) (p : Fin 64) :
    (b51 (F := Ideal) j q : Vec Ideal S2x128x8x6x64 .f32) (ix5 b l g r p)
      = (∑ n : Fin 128, (q.main_v38_6 : Vec Ideal S2x8x6x64x128 .f32) (ix5 b g r p n) * (b24 (F := Ideal) j q : Vec Ideal S2x128x8x128 .f32) (ix4 b l g n) : EReal)
          * Ideal.exp ((b27 (F := Ideal) j q : Vec Ideal S2x128x8x6 .f32) (ix4 b l g r)) := by
  pointwise [b51, b50, b49, b48, b47, b46]

theorem b66_at (j : ℕ) (b : Fin 2) (g : Fin 8) (r : Fin 6) (p : Fin 64) (n : Fin 128) :
    (b66 (F := Ideal) j q : Vec Ideal S2x8x6x64x128 .f32) (ix5 b g r p n)
      = (q.main_v38_6 : Vec Ideal S2x8x6x64x128 .f32) (ix5 b g r p n) * Ideal.exp ((b27 (F := Ideal) j q : Vec Ideal S2x128x8x6 .f32) (ix4 b 127 g r))
        + ∑ x : Fin 128, (Ideal.exp ((b27 (F := Ideal) j q : Vec Ideal S2x128x8x6 .f32) (ix4 b 127 g r) - (b27 (F := Ideal) j q : Vec Ideal S2x128x8x6 .f32) (ix4 b x g r))
            * (b6 (F := Ideal) j q : Vec Ideal S2x128x8x6x64 .f32) (ix5 b x g r p) * (b18 (F := Ideal) j q : Vec Ideal S2x128x8x128 .f32) (ix4 b x g n) : EReal) := by
  pointwise [b66, b65, b64, b63, b62, b61, b60, b59, b58, b57, b56, b55, b54, b53, b52]

theorem b67_at (j : ℕ) (b : Fin 2) (l : Fin 128) (g : Fin 8) (r : Fin 6) (p : Fin 64) :
    (b67 (F := Ideal) j q : Vec Ideal S2x128x8x6x64 .f32) (ix5 b l g r p)
      = @HAdd.hAdd EReal EReal EReal instHAdd ((b45 (F := Ideal) j q : Vec Ideal S2x128x8x6x64 .f32) (ix5 b l g r p)) ((b51 (F := Ideal) j q : Vec Ideal S2x128x8x6x64 .f32) (ix5 b l g r p)) := by
  pointwise [b67]

theorem b74_at (j : Fin 64) (c : Fin 64) (b : Fin 2) (l : Fin 128) (g : Fin 8) (r : Fin 6) (p : Fin 64) :
    (b74 (F := Ideal) j.val q : Vec Ideal S64x2x128x8x6x64 .f32) (ix6 c b l g r p)
      = if c = j then (b67 (F := Ideal) j.val q : Vec Ideal S2x128x8x6x64 .f32) (ix5 b l g r p) else (q.main_v38_7 : Vec Ideal S64x2x128x8x6x64 .f32) (ix6 c b l g r p) := by
  have hc (a : Fin 6) : Host.clampedStart S64x2x128x8x6x64 S1x2x128x8x6x64 rfl
      (fun k => BitVec.toInt (![constantI S_ 32 (BitVec.ofNat 32 j.val), constantI S_ 32 0#32, constantI S_ 32 0#32, constantI S_ 32 0#32, constantI S_ 32 0#32, constantI S_ 32 0#32] k (Shape.Idx.first Gen.h_S_))) a
      = (![j.val, 0, 0, 0, 0, 0] : Fin 6 → ℕ) a := by
    have hj := j.isLt
    refine Host.clampedStart_of_le _ _ _ _ (by fin_cases a <;> first | exact toInt_ofNat j | rfl) (by fin_cases a <;> simp <;> omega)
  pointwise [b74, b68, b69, b70, b71, b72, b73]
  simp only [hc]
  by_cases h : c = j
  · rw [if_pos h, dif_pos]
    · rfl
    · subst h
      exact ⟨⟨Nat.le_refl _, Nat.lt_succ_self _⟩, Nat.zero_le _, Nat.zero_le _, Nat.zero_le _, Nat.zero_le _, Nat.zero_le _⟩
  · rw [if_neg h, dif_neg]
    rintro ⟨⟨h1, h2⟩, -⟩
    refine h (Fin.ext ?_)
    replace h1 : j.val ≤ c.val := h1
    replace h2 : c.val < j.val + 1 := h2
    omega

end Cert.Scan
-- ==== Proof.RefState.lean ====
module

public import proofs.«01_k».proof.Proof.RefStep

@[expose] public section

set_option maxRecDepth 16384

noncomputable section

namespace Cert.Scan

open Cert.ReferenceIdeal Cert.ReferenceIdeal.Gen Cert.ReferenceIdeal.Step Idealize.ShloMosaic Idealize.ShloMosaic.TcCoe

variable (A : Args)

/-! The reference's loop, trip by trip. -/

/-- The loop's state before trip `n`. -/
def itS (n : ℕ) : State Ideal :=
  Nat.rec (motive := fun _ => State Ideal) (init A.h0 A.act A.raw A.bias A.alog) (fun n q => step n q) n

theorem itS_succ (n : ℕ) : itS A (n + 1) = step n (itS A n) := rfl

/-- What the trips leave alone. -/
theorem itS_kept : ∀ n : ℕ, (itS A n).main_v38_0 = A_main_v30 A.act A.raw A.bias A.alog ∧ (itS A n).main_v38_1 = A_main_v32 A.act A.raw A.bias A.alog
    ∧ (itS A n).main_v38_2 = A_main_v34 A.act A.raw A.bias A.alog ∧ (itS A n).main_v38_3 = A_main_v36 A.act A.raw A.bias A.alog
  | 0 => ⟨rfl, rfl, rfl, rfl⟩
  | n + 1 => itS_kept n

theorem it_x (s : Fin 64) (b : Fin 2) (l : Fin 128) (g : Fin 8) (r : Fin 6) (p : Fin 64) :
    (b6 (F := Ideal) s.val (itS A s.val) : Vec Ideal S2x128x8x6x64 .f32) (ix5 b l g r p) = sX A s b l (feat g r p) * sDt A s b l (head g r) := by
  rw [b6_at, (itS_kept A s.val).1]
  exact ref_x A s b l g r p

theorem it_B (s : Fin 64) (b : Fin 2) (l : Fin 128) (g : Fin 8) (n : Fin 128) :
    (b18 (F := Ideal) s.val (itS A s.val) : Vec Ideal S2x128x8x128 .f32) (ix4 b l g n) = sB A s b l (col g n) := by
  rw [b18_at, (itS_kept A s.val).2.2.1]
  exact ref_B A s b l g n

theorem it_C (s : Fin 64) (b : Fin 2) (l : Fin 128) (g : Fin 8) (n : Fin 128) :
    (b24 (F := Ideal) s.val (itS A s.val) : Vec Ideal S2x128x8x128 .f32) (ix4 b l g n) = sC A s b l (col g n) := by
  rw [b24_at, (itS_kept A s.val).2.2.2]
  exact ref_C A s b l g n

theorem it_cu (s : Fin 64) (b : Fin 2) (l : Fin 128) (g : Fin 8) (r : Fin 6) :
    (b27 (F := Ideal) s.val (itS A s.val) : Vec Ideal S2x128x8x6 .f32) (ix4 b l g r) = sCu A s b l (head g r) := by
  rw [b27_at]
  unfold sCu
  congr 1
  funext l'
  rw [b12_at, (itS_kept A s.val).2.1]
  exact ref_da A s b l' g r

/-- The specification's state update at a head's feature. -/
theorem sH_at (s : Fin 64) (h : Vec Ideal S2x8x384x128 .f32) (b : Fin 2) (g : Fin 8) (r : Fin 6) (p : Fin 64) (n : Fin 128) :
    sH A s h b g (feat' r p) n
      = h (ix4 b g (feat' r p) n) * Ideal.exp (sCu A s b 127 (head g r))
        + ∑ x : Fin 128, sX A s b x (feat g r p) * (sDt A s b x (head g r) * Ideal.exp (sCu A s b 127 (head g r) - sCu A s b x (head g r))) * sB A s b x (col g n) := by
  unfold sH
  rw [fin_congr (n := 48) (a := 6 * g.val + (feat' r p).val / 64) (b := g.val * 6 + r.val) (by have := (feat' r p).isLt; omega) (by omega) (by dsimp only; omega)]
  congr 1
  refine Finset.sum_congr rfl fun x _ => ?_
  rw [fin_congr (n := 3072) (a := 384 * g.val + (feat' r p).val) (b := g.val * 384 + r.val * 64 + p.val) _ (by omega) (by dsimp only; omega),
    fin_congr (n := 1024) (a := 128 * g.val + n.val) (b := g.val * 128 + n.val) _ (by omega) (by omega)]

/-- The specification's result at a head's feature. -/
theorem sY_at (s : Fin 64) (h : Vec Ideal S2x8x384x128 .f32) (b : Fin 2) (l : Fin 128) (g : Fin 8) (r : Fin 6) (p : Fin 64) :
    sY A s h b l (feat g r p)
      = (∑ x : Fin 128, (∑ n : Fin 128, sC A s b l (col g n) * sB A s b x (col g n))
          * Ideal.exp (if x.val ≤ l.val then sCu A s b l (head g r) - sCu A s b x (head g r) else low)
          * sDt A s b x (head g r) * sX A s b x (feat g r p))
        + (∑ n : Fin 128, sC A s b l (col g n) * h (ix4 b g (feat' r p) n)) * Ideal.exp (sCu A s b l (head g r)) := by
  have hg := g.isLt
  have hr := r.isLt
  have hp := p.isLt
  have e1 (n : Fin 128) (hn : 128 * ((feat g r p).val / 384) + n.val < 1024) : (⟨128 * ((feat g r p).val / 384) + n.val, hn⟩ : Fin 1024) = col g n :=
    fin_congr _ _ (by dsimp only; omega)
  have e2 (hn : (feat g r p).val / 64 < 48) : (⟨(feat g r p).val / 64, hn⟩ : Fin 48) = head g r := fin_congr _ _ (by dsimp only; omega)
  have e3 (hn : (feat g r p).val / 384 < 8) : (⟨(feat g r p).val / 384, hn⟩ : Fin 8) = g := Fin.ext (by dsimp only; omega)
  have e4 (hn : (feat g r p).val % 384 < 384) : (⟨(feat g r p).val % 384, hn⟩ : Fin 384) = feat' r p := fin_congr _ _ (by dsimp only; omega)
  unfold sY
  simp only [e1, e2, e3, e4]

/-- Before trip `n` the reference's state is the specification's, and the chunks before it hold its results. -/
theorem itS_state : ∀ n : ℕ, n ≤ 64 →
    (∀ (b : Fin 2) (g : Fin 8) (r : Fin 6) (p : Fin 64) (k : Fin 128),
      ((itS A n).main_v38_6 : Vec Ideal S2x8x6x64x128 .f32) (ix5 b g r p k) = sSt A n (ix4 b g (feat' r p) k))
    ∧ (∀ (s : Fin 64), s.val < n → ∀ (b : Fin 2) (l : Fin 128) (g : Fin 8) (r : Fin 6) (p : Fin 64),
      ((itS A n).main_v38_7 : Vec Ideal S64x2x128x8x6x64 .f32) (ix6 s b l g r p) = sY A s (sSt A s.val) b l (feat g r p))
  | 0, _ => by
    refine ⟨fun b g r p k => ?_, fun s h => absurd h (Nat.not_lt_zero _)⟩
    show A.h0 (ix5 b g r p k) = A.h0 (ix5 b g ⟨(feat' r p).val / 64, _⟩ ⟨(feat' r p).val % 64, _⟩ k)
    congr 2 <;> exact Fin.ext (by dsimp only; omega)
  | n + 1, hn => by
    obtain ⟨ih1, ih2⟩ := itS_state n (by omega)
    let c : Fin 64 := ⟨n, hn⟩
    refine ⟨fun b g r p k => ?_, fun s h b l g r p => ?_⟩
    · rw [itS_succ, step_main_v38_6, b66_at, ih1]
      refine Eq.trans ?_ (congrFun (sSt_succ A c).symm (ix4 b g (feat' r p) k))
      refine Eq.trans ?_ (sH_at A c (sSt A n) b g r p k).symm
      refine congrArg₂ (fun x y : EReal => x + y) (congrArg (fun x : EReal => sSt A n (ix4 b g (feat' r p) k) * x) (congrArg Ideal.exp (it_cu A c b 127 g r))) ?_
      refine Finset.sum_congr rfl fun x _ => ?_
      refine congrArg₂ (fun x y : EReal => x * y) ?_ (it_B A c b x g k)
      refine (congrArg₂ (fun x y : EReal => x * y) (congrArg Ideal.exp (congrArg₂ (fun x y : EReal => x - y) (it_cu A c b 127 g r) (it_cu A c b x g r))) (it_x A c b x g r p)).trans ?_
      rw [mul_comm, mul_assoc]
    · rw [itS_succ, step_main_v38_7]
      refine (b74_at (itS A n) c s b l g r p).trans ?_
      by_cases hs : s = c
      · subst hs
        rw [if_pos rfl, b67_at, b45_at, b51_at, sY_at]
        refine congrArg₂ (fun x y : EReal => x + y) ?_ ?_
        · refine Finset.sum_congr rfl fun x _ => ?_
          rw [b38_at, it_x A c, it_cu A c, it_cu A c]
          refine (congrArg (fun y : EReal => sX A c b x (feat g r p) * sDt A c b x (head g r) * (y * _)) (Finset.sum_congr rfl fun k _ => (congrArg₂ (fun x y : EReal => x * y) (it_B A c b x g k) (it_C A c b l g k)).trans (mul_comm _ _))).trans ?_
          rw [mul_comm, mul_comm (sX A c b x (feat g r p)), ← mul_assoc]
        · rw [it_cu A c]
          refine congrArg (fun y : EReal => y * _) (Finset.sum_congr rfl fun k _ => ?_)
          exact (congrArg₂ (fun x y : EReal => x * y) (ih1 b g r p k) (it_C A c b l g k)).trans (mul_comm _ _)
      · rw [if_neg hs]
        exact ih2 s (by have : s.val ≠ n := fun e => hs (Fin.ext e); omega) b l g r p

/-- The reference's results at an index. -/
theorem ref_y (b : Fin 2) (s : Fin 64) (l : Fin 128) (g : Fin 8) (r : Fin 6) (p : Fin 64) :
    (R_main_v41 (itS A 64) : Vec Ideal S2x8192x3072 .bf16) (ix3 b (tok s l) (feat g r p)) = sY A s (sSt A s.val) b l (feat g r p) := by
  refine Eq.trans ?_ ((itS_state A 64 le_rfl).2 s s.isLt b l g r p)
  generalize itS A 64 = q
  have e : (R_main_v41 q : Vec Ideal S2x8192x3072 .bf16) (ix3 b (tok s l) (feat g r p))
      = (q.main_v38_7 : Vec Ideal S64x2x128x8x6x64 .f32) (ix6 ⟨(128 * s.val + l.val) / 128, by omega⟩ b ⟨(128 * s.val + l.val) % 128, by omega⟩
          ⟨(feat g r p).val / 384, by omega⟩ ⟨(feat g r p).val / 64 % 6, by omega⟩ ⟨(feat g r p).val % 64, by omega⟩) := by
    pointwise [R_main_v41]
  rw [e]
  have hl := l.isLt
  have hr := r.isLt
  have hp := p.isLt
  congr 1
  congr 1 <;> exact Fin.ext (by dsimp only; omega)

theorem ref_h (b : Fin 2) (g : Fin 8) (r : Fin 384) (k : Fin 128) :
    (R_main_v42 (itS A 64) : Vec Ideal S2x8x384x128 .f32) (ix4 b g r k) = sSt A 64 (ix4 b g r k) := by
  have e : (R_main_v42 (itS A 64) : Vec Ideal S2x8x384x128 .f32) (ix4 b g r k)
      = ((itS A 64).main_v38_6 : Vec Ideal S2x8x6x64x128 .f32) (ix5 b g ⟨r.val / 64, by omega⟩ ⟨r.val % 64, by omega⟩ k) := by
    pointwise [R_main_v42]
  rw [e, (itS_state A 64 le_rfl).1]
  rw [show feat' ⟨r.val / 64, by omega⟩ ⟨r.val % 64, by omega⟩ = r from Fin.ext (by dsimp only; omega)]

end Cert.Scan
-- ==== Proof.RefRun.lean ====
module

public import proofs.«01_k».proof.Proof.RefState
public import proofs.«01_k».proof.Proof.Gen.ReferenceIdeal.Run

@[expose] public section

set_option maxRecDepth 16384

noncomputable section

namespace Cert.Scan

open Cert.ReferenceIdeal Cert.ReferenceIdeal.Gen Cert.ReferenceIdeal.Value Cert.ReferenceIdeal.Step Idealize.ShloMosaic Idealize.ShloMosaic.TcCoe
open Idealize.ShloMosaic.StableHlo

/-! The run of the reference ends in the sequence of states of its loop. -/

/-- The loop's buffers before trip `j` hold the state `q`. -/
structure Carries (W : Valuation τ sig (Elt Ideal)) (q : State Ideal) (j : ℕ) : Prop where
  x : W (Proc.devRef .tc main_v38_0) = q.main_v38_0
  da : W (Proc.devRef .tc main_v38_1) = q.main_v38_1
  bs : W (Proc.devRef .tc main_v38_2) = q.main_v38_2
  cs : W (Proc.devRef .tc main_v38_3) = q.main_v38_3
  mask : W (Proc.devRef .tc main_v38_4) = K_main_v28 (F := Ideal)
  trip : W (Proc.devRef .tc main_v38_5) = constantI S_ 32 (BitVec.ofNat 32 j)
  state : W (Proc.devRef .tc main_v38_6) = q.main_v38_6
  ys : W (Proc.devRef .tc main_v38_7) = q.main_v38_7

variable {W : Valuation τ sig (Elt Ideal)} {q : State Ideal} {j : ℕ}

theorem carries_x (h : Carries W q j) : res_main_while0b_v43 W = b6 j q := by
  unfold res_main_while0b_v43
  rw [h.x, h.trip]
  rfl

theorem carries_B (h : Carries W q j) : res_main_while0b_v45 W = b18 j q := by
  unfold res_main_while0b_v45
  rw [h.bs, h.trip]
  rfl

theorem carries_C (h : Carries W q j) : res_main_while0b_v46 W = b24 j q := by
  unfold res_main_while0b_v46
  rw [h.cs, h.trip]
  rfl

theorem carries_cu (h : Carries W q j) : res_main_while0b_v47 W = b27 j q := by
  unfold res_main_while0b_v47
  rw [h.da, h.trip]
  rfl

theorem carries_state (h : Carries W q j) : Value.step_main_v38_6 W = b66 j q := by
  unfold Value.step_main_v38_6
  rw [carries_cu h, carries_x h, carries_B h, h.state]
  rfl

theorem carries_ys (h : Carries W q j) : Value.step_main_v38_7 W = b74 j q := by
  unfold Value.step_main_v38_7
  rw [carries_cu h, carries_x h, carries_B h, carries_C h, h.state, h.mask, h.trip, h.ys]
  rfl

theorem carries_trip (h : Carries W q j) : step_main_v38_5 W = constantI S_ 32 (BitVec.ofNat 32 (j + 1)) := by
  unfold step_main_v38_5
  rw [h.trip]
  funext i
  show BitVec.ofNat 32 j + 1#32 = BitVec.ofNat 32 (j + 1)
  simp only [BitVec.ofNat_add]

/-- One trip. -/
theorem carries_succ (h : Carries W q j) : Carries (STEP W) (step j q) (j + 1) where
  x := (STEP_main_v38_0 W).trans h.x
  da := (STEP_main_v38_1 W).trans h.da
  bs := (STEP_main_v38_2 W).trans h.bs
  cs := (STEP_main_v38_3 W).trans h.cs
  mask := (STEP_main_v38_4 W).trans h.mask
  trip := (STEP_main_v38_5 W).trans (carries_trip h)
  state := (STEP_main_v38_6 W).trans (carries_state h)
  ys := (STEP_main_v38_7 W).trans (carries_ys h)

variable (m : (ℓ : Loc nD τ sig) → Buf (Elt Ideal) ℓ) (c : Dev nD)

/-- The reference's arguments. -/
def rargs : Args where
  act := m ((c : Thread nD τ).loc main_arg0)
  raw := m ((c : Thread nD τ).loc main_arg1)
  bias := m ((c : Thread nD τ).loc main_arg2)
  alog := m ((c : Thread nD τ).loc main_arg3)
  h0 := m ((c : Thread nD τ).loc main_arg4)

set_option maxRecDepth 65536 in
set_option maxHeartbeats 1000000 in
/-- The loop's start. -/
theorem carries_zero : Carries (entryContents preI m c) (itS (rargs m c) 0) 0 := by
  constructor <;> (simp only [entryContents, afterL_cons, afterL_nil]; after_reads_simp) <;> rfl

theorem carries_iter : ∀ n, Carries (STEP^[n] (entryContents preI m c)) (itS (rargs m c) n) n
  | 0 => carries_zero m c
  | n + 1 => by
    rw [Function.iterate_succ_apply', itS_succ]
    exact carries_succ (carries_iter n)

theorem last_y : out_main_v41 (STEP^[64] (entryContents preI m c)) = R_main_v41 (itS (rargs m c) 64) := by
  unfold out_main_v41
  rw [(carries_iter m c 64).ys]
  rfl

theorem last_h : out_main_v42 (STEP^[64] (entryContents preI m c)) = R_main_v42 (itS (rargs m c) 64) := by
  unfold out_main_v42
  rw [(carries_iter m c 64).state]
  rfl

end Cert.Scan
-- ==== Proof.Value.lean ====
/- The kernel's results are the reference's. -/
module

public import proofs.«01_k».proof.Proof.Chunks
public import proofs.«01_k».proof.Proof.RefRun

@[expose] public section

set_option maxRecDepth 16384

noncomputable section

namespace Cert.Scan

open Cert.KernelIdeal Cert.KernelIdeal.Gen Idealize.ShloMosaic Idealize.ShloMosaic.TcCoe

variable (m : (ℓ : Loc nD τ sig) → Buf (Elt Ideal) ℓ)

/-- The first result, the scan's output. -/
theorem y_eq (c : Dev nD) : (KernelIdeal.Value.G8 (F := Ideal) m c : Vec Ideal S2x8192x3072 .bf16) = ReferenceIdeal.Step.R_main_v41 (itS (args m c) 64) := by
  funext i
  have h1 : (i 1).val < 8192 := (i 1).isLt
  have h2 : (i 2).val < 3072 := (i 2).isLt
  let b : Fin 2 := i 0
  let s : Fin 64 := ⟨(i 1).val / 128, by omega⟩
  let l : Fin 128 := ⟨(i 1).val % 128, by omega⟩
  let g : Fin 8 := ⟨(i 2).val / 384, by omega⟩
  let r : Fin 6 := ⟨(i 2).val % 384 / 64, by omega⟩
  let p : Fin 64 := ⟨(i 2).val % 64, by omega⟩
  have hi : i = ix3 b (tok s l) (feat g r p) := by
    funext a
    match a with
    | ⟨0, _⟩ => rfl
    | ⟨1, _⟩ => exact Fin.ext (show (i 1).val = 128 * ((i 1).val / 128) + (i 1).val % 128 by omega)
    | ⟨2, _⟩ => exact Fin.ext (show (i 2).val = (i 2).val / 384 * 384 + (i 2).val % 384 / 64 * 64 + (i 2).val % 64 by omega)
  rw [hi]
  exact (result_y m c b s l _).trans ((result_eq m c s b l _).trans (ref_y (args m c) b s l g r p).symm)

/-- The second, its last state. -/
theorem h_eq (c : Dev nD) : (KernelIdeal.Value.G9 (F := Ideal) m c : Vec Ideal S2x8x384x128 .f32) = ReferenceIdeal.Step.R_main_v42 (itS (args m c) 64) := by
  rw [last_state, state_eq m c 64 le_rfl]
  funext i
  rw [eq_ix4' i]
  exact (ref_h (args m c) _ _ _ _).symm

end Cert.Scan
-- ==== Proof.Pad.lean ====
/- Zero padding over the extended reals, and a product with a padded factor. -/
module

public import Idealize.ShloMosaic.Lib.Pipeline.ValueKit

@[expose] public section

noncomputable section

namespace Cert.Pad

open Idealize.ShloMosaic

/-- The padding value, an integer zero as a float. -/
theorem fill_zero : (FloatOps.sitofp (F := Ideal) FTy.f32 (0#32) : EReal) = 0 := by
  show (((0#32).toInt : ℝ) : EReal) = 0
  simp

/-- Padding with that value is padding with zero. -/
theorem dite_fill {p : Prop} [Decidable p] (f : p → EReal) :
    (if h : p then f h else (FloatOps.sitofp (F := Ideal) FTy.f32 (0#32) : EReal)) = if h : p then f h else 0 := by
  rw [fill_zero]

/-- A product with a factor whose columns beyond some number are zero. -/
theorem sum_pad {n : ℕ} {p : Prop} [Decidable p] (x : Fin n → EReal) (w : p → Fin n → EReal) :
    (∑ k, x k * (if h : p then w h k else 0)) = if h : p then ∑ k, x k * w h k else 0 := by
  by_cases h : p
  · simp only [h, dite_true]
  · simp only [h, dite_false]
    exact Finset.sum_eq_zero fun k _ => mul_zero (x k)

end Cert.Pad
-- ==== Proof.UpKernel.lean ====
/- The gate and up projections of the feed-forward net, block by block: a tile of rows against a tile of the padded
   weight's columns. -/
module

public import proofs.«01_k».proof.Proof.Gen.Kernel2Ideal.Frame
public import proofs.«01_k».proof.Proof.Gen.Kernel2Ideal.Value
public import proofs.«01_k».proof.Proof.Pad
public import Idealize.ShloMosaic.Lib.Pipeline.ValueKit
public import Idealize.ShloMosaic.Lib.StableHlo.ReadAt

@[expose] public section

set_option maxRecDepth 16384

noncomputable section

namespace Cert.Up

open Cert.Kernel2Ideal Cert.Kernel2Ideal.Gen Idealize.ShloMosaic Idealize.ShloMosaic.TcCoe

/-- Column `j` of the padded product of a row `r`: the product's where the weight has that column, else zero. -/
def col (h : Vec Ideal S16384x4096 .bf16) (w : Vec Ideal S4096x11008 .f32) (r : Fin 16384) (j : ℕ) : EReal :=
  if hj : j < 11008 then ∑ k : Fin 4096, h (ix2 r k) * w (ix2 k ⟨j, hj⟩) else 0

/-- The tiles of columns, one after another. -/
def tiles (h : Vec Ideal S16384x4096 .bf16) (w : Vec Ideal S4096x11008 .f32) : Vec Ideal S22x16384x512 .bf16 :=
  fun i => col h w (i 1) ((i 0).val * 512 + (i 2).val)

theorem pay1_at (x : Vec Ideal S1024x4096 .bf16) (w : Vec Ideal S4096x512 .bf16) (a : Fin 1) (r : Fin 1024) (q : Fin 512) :
    (k0_pay1 x w : Vec Ideal S1x1024x512 .bf16) (ix3 a r q) = ∑ k : Fin 4096, x (ix2 r k) * w (ix2 k q) := by
  pointwise [k0_pay1]

theorem pay2_at (x : Vec Ideal S1024x4096 .bf16) (w : Vec Ideal S4096x512 .bf16) (a : Fin 1) (r : Fin 1024) (q : Fin 512) :
    (k0_pay2 x w : Vec Ideal S1x1024x512 .bf16) (ix3 a r q) = ∑ k : Fin 4096, x (ix2 r k) * w (ix2 k q) := by
  pointwise [k0_pay2]

variable (m : (ℓ : Loc nD τ sig) → Buf (Elt Ideal) ℓ)

theorem idx0 : ∀ t : Fin cfg0.N, win0_0.index t (0 : Fin 2) = t.val / 22 ∧ win0_0.index t (1 : Fin 2) = 0 := by decide +kernel
theorem idx1 : ∀ t : Fin cfg0.N, win0_1.index t (0 : Fin 2) = 0 ∧ win0_1.index t (1 : Fin 2) = t.val % 22 := by decide +kernel
theorem idx2 : ∀ t : Fin cfg0.N, win0_2.index t (0 : Fin 2) = 0 ∧ win0_2.index t (1 : Fin 2) = t.val % 22 := by decide +kernel
theorem idx3 : ∀ t : Fin cfg0.N, win0_3.index t (0 : Fin 3) = t.val % 22 ∧ win0_3.index t (1 : Fin 3) = t.val / 22 ∧ win0_3.index t (2 : Fin 3) = 0 := by decide +kernel
theorem idx4 : ∀ t : Fin cfg0.N, win0_4.index t (0 : Fin 3) = t.val % 22 ∧ win0_4.index t (1 : Fin 3) = t.val / 22 ∧ win0_4.index t (2 : Fin 3) = 0 := by decide +kernel

theorem lt_N (t : Fin cfg0.N) : t.val < 352 := lt_of_lt_of_eq t.isLt N_0

/-- The row of a grid point's tile, -/
abbrev gRow (t : Fin cfg0.N) (r : Fin 1024) : Fin 16384 := ⟨1024 * (t.val / 22) + r.val, by have := lt_N t; omega⟩
/-- and the column. -/
abbrev gCol (t : Fin cfg0.N) (q : Fin 512) : Fin 11264 := ⟨t.val % 22 * 512 + q.val, by omega⟩

abbrev argH (c : Dev nD) : Vec Ideal S16384x4096 .bf16 := m ((c : Thread nD τ).loc main_arg0)
abbrev argU (c : Dev nD) : Vec Ideal S4096x11008 .f32 := m ((c : Thread nD τ).loc main_arg1)
abbrev argG (c : Dev nD) : Vec Ideal S4096x11008 .f32 := m ((c : Thread nD τ).loc main_arg2)

theorem v1_at (c : Dev nD) (k : Fin 4096) (j : Fin 11264) :
    (V (F := Ideal) m c main_v1 : Vec Ideal S4096x11264 .bf16) (ix2 k j) = if hj : j.val < 11008 then argU m c (ix2 k ⟨j.val, hj⟩) else (0 : EReal) := by
  unfold V
  after_reads_at
  exact Pad.dite_fill _

theorem v3_at (c : Dev nD) (k : Fin 4096) (j : Fin 11264) :
    (V (F := Ideal) m c main_v3 : Vec Ideal S4096x11264 .bf16) (ix2 k j) = if hj : j.val < 11008 then argG m c (ix2 k ⟨j.val, hj⟩) else (0 : EReal) := by
  unfold V
  after_reads_at
  exact Pad.dite_fill _

theorem blk0_at (c : Dev nD) (t : Fin cfg0.N) (r : Fin 1024) (k : Fin 4096) :
    (iblk (F := Ideal) m c 0 t : Vec Ideal S1024x4096 .bf16) (ix2 r k) = argH m c (ix2 (gRow t r) k) := by
  blk_ext! [iblk, V, idx0 t]

theorem blk1_at (c : Dev nD) (t : Fin cfg0.N) (k : Fin 4096) (q : Fin 512) :
    (iblk (F := Ideal) m c 1 t : Vec Ideal S4096x512 .bf16) (ix2 k q) = (V (F := Ideal) m c main_v1 : Vec Ideal S4096x11264 .bf16) (ix2 k (gCol t q)) := by
  blk_ext! [iblk, idx1 t]

theorem blk2_at (c : Dev nD) (t : Fin cfg0.N) (k : Fin 4096) (q : Fin 512) :
    (iblk (F := Ideal) m c 2 t : Vec Ideal S4096x512 .bf16) (ix2 k q) = (V (F := Ideal) m c main_v3 : Vec Ideal S4096x11264 .bf16) (ix2 k (gCol t q)) := by
  blk_ext! [iblk, idx2 t]

theorem emb3 (X : Vec Ideal S22x16384x512 .bf16) (t : Fin cfg0.N) (a : Fin 1) (r : Fin 1024) (q : Fin 512) :
    (((cfg0.win 3).blk t).view.read (Elt Ideal) X : Vec Ideal S1x1024x512 .bf16) (ix3 a r q) = X (ix3 ⟨t.val % 22, by omega⟩ (gRow t r) q) := by
  blk_ext! [idx3 t]

theorem emb4 (X : Vec Ideal S22x16384x512 .bf16) (t : Fin cfg0.N) (a : Fin 1) (r : Fin 1024) (q : Fin 512) :
    (((cfg0.win 4).blk t).view.read (Elt Ideal) X : Vec Ideal S1x1024x512 .bf16) (ix3 a r q) = X (ix3 ⟨t.val % 22, by omega⟩ (gRow t r) q) := by
  blk_ext! [idx4 t]

theorem tiles_at (h : Vec Ideal S16384x4096 .bf16) (w : Vec Ideal S4096x11008 .f32) (a : Fin 22) (r : Fin 16384) (q : Fin 512) :
    tiles h w (ix3 a r q) = col h w r (a.val * 512 + q.val) := rfl

/-- A grid point's tile, from a weight that is padded. -/
theorem tile (h : Vec Ideal S16384x4096 .bf16) (w : Vec Ideal S4096x11008 .f32) (x : Vec Ideal S1024x4096 .bf16) (b : Vec Ideal S4096x512 .bf16)
    (t : Fin cfg0.N) (r : Fin 1024) (q : Fin 512) (hx : ∀ k, x (ix2 r k) = h (ix2 (gRow t r) k))
    (hb : ∀ k, b (ix2 k q) = if hj : (gCol t q).val < 11008 then w (ix2 k ⟨(gCol t q).val, hj⟩) else (0 : EReal)) :
    (∑ k : Fin 4096, x (ix2 r k) * b (ix2 k q) : EReal) = tiles h w (ix3 ⟨t.val % 22, by omega⟩ (gRow t r) q) := by
  refine (Finset.sum_congr rfl fun k _ => ?_).trans (Pad.sum_pad (fun k => h (ix2 (gRow t r) k)) fun hj k => w (ix2 k ⟨(gCol t q).val, hj⟩))
  rw [hx, hb]

theorem point3 (c : Dev nD) (t : Fin cfg0.N) (y : S1x1024x512.Idx) :
    (k0_pay1 (F := Ideal) (iblk m c 0 t) (iblk m c 1 t) : Vec Ideal S1x1024x512 .bf16) y
      = (((cfg0.win 3).blk t).view.read (Elt Ideal) (tiles (argH m c) (argU m c)) : Vec Ideal S1x1024x512 .bf16) y := by
  rw [eq_ix3 y]
  exact (pay1_at _ _ _ _ _).trans ((tile _ _ _ _ t _ _ (blk0_at m c t _) fun k => (blk1_at m c t k _).trans (v1_at m c k _)).trans (emb3 _ t _ _ _).symm)

theorem point4 (c : Dev nD) (t : Fin cfg0.N) (y : S1x1024x512.Idx) :
    (k0_pay2 (F := Ideal) (iblk m c 0 t) (iblk m c 2 t) : Vec Ideal S1x1024x512 .bf16) y
      = (((cfg0.win 4).blk t).view.read (Elt Ideal) (tiles (argH m c) (argG m c)) : Vec Ideal S1x1024x512 .bf16) y := by
  rw [eq_ix3 y]
  exact (pay2_at _ _ _ _ _).trans ((tile _ _ _ _ t _ _ (blk0_at m c t _) fun k => (blk2_at m c t k _).trans (v3_at m c k _)).trans (emb4 _ t _ _ _).symm)

theorem final3 (c : Dev nD) : (dats (F := Ideal) m 0 c).arrAt 3 cfg0.N = tiles (argH m c) (argU m c) := by
  refine (dats m 0 c).arrAt_eq_of_covers 3 _ (by decide +kernel) fun t _ y => ?_
  blk_simp
  rw [after0_3]; frame_out
  exact point3 m c t y

theorem final4 (c : Dev nD) : (dats (F := Ideal) m 0 c).arrAt 4 cfg0.N = tiles (argH m c) (argG m c) := by
  refine (dats m 0 c).arrAt_eq_of_covers 4 _ (by decide +kernel) fun t _ y => ?_
  blk_simp
  rw [after0_4]; frame_out
  exact point4 m c t y

end Cert.Up
-- ==== Proof.UpRef.lean ====
/- The reference's projections up, and that they are the kernel's. -/
module

public import proofs.«01_k».proof.Proof.UpKernel
public import proofs.«01_k».proof.Proof.Gen.Reference2Ideal.Run
public import Idealize.ShloMosaic.Lib.Pipeline.ValueKit
public import Idealize.ShloMosaic.Lib.StableHlo.ReadAt

@[expose] public section

set_option maxRecDepth 16384

noncomputable section

namespace Cert.Up

open Cert.Reference2Ideal Cert.Reference2Ideal.Gen Idealize.ShloMosaic Idealize.ShloMosaic.TcCoe

theorem mm_at (X : Vec Ideal S16384x4096 .bf16) (W : Vec Ideal S4096x11008 .f32) (r : Fin 16384) (j : Fin 11008) :
    (Host.dotGeneral (F := Ideal) (φ₂ := .f32) dot_S16384x4096_S4096x11008_S16384x11008_1_0_0_1_n_n none (extf (F := Ideal) .f32 X bitsLt_bf16_f32) W : Vec Ideal S16384x11008 .f32) (ix2 r j)
      = ∑ k : Fin 4096, X (ix2 r k) * W (ix2 k j) := by
  pointwise []

/-- A padded matrix, its columns cut into tiles. -/
theorem padded (Y : Vec Ideal S16384x11008 .f32) (a : Fin 22) (r : Fin 16384) (q : Fin 512) :
    (truncf (F := Ideal) .bf16 (transpose S22x16384x512 [1, 0, 2] (shapeCast S16384x22x512 (pad S16384x11264 ![0, 0] ![0, 256] ![0, 0] Y
        (sitofp (F := Ideal) .f32 (constantI S_ 32 0#32)) pads_S16384x11008_S16384x11264_000_02560 h_S_) shapeCasts_S16384x11264_S16384x22x512)
        transposes_S16384x22x512_S22x16384x512_1_0_2) bitsLt_bf16_f32 : Vec Ideal S22x16384x512 .bf16) (ix3 a r q)
      = if hj : a.val * 512 + q.val < 11008 then Y (ix2 r ⟨a.val * 512 + q.val, hj⟩) else (0 : EReal) := by
  pointwise []
  exact Pad.dite_fill _

/-- The reference's padded product, its columns cut into tiles. -/
theorem ref_tiles (X : Vec Ideal S16384x4096 .bf16) (W : Vec Ideal S4096x11008 .f32) :
    (truncf (F := Ideal) .bf16 (transpose S22x16384x512 [1, 0, 2] (shapeCast S16384x22x512 (pad S16384x11264 ![0, 0] ![0, 256] ![0, 0]
        (Host.dotGeneral (F := Ideal) (φ₂ := .f32) dot_S16384x4096_S4096x11008_S16384x11008_1_0_0_1_n_n none (extf (F := Ideal) .f32 X bitsLt_bf16_f32) W)
        (sitofp (F := Ideal) .f32 (constantI S_ 32 0#32)) pads_S16384x11008_S16384x11264_000_02560 h_S_) shapeCasts_S16384x11264_S16384x22x512)
        transposes_S16384x22x512_S22x16384x512_1_0_2) bitsLt_bf16_f32 : Vec Ideal S22x16384x512 .bf16)
      = tiles X W := by
  funext i
  rw [eq_ix3 i]
  refine (padded _ _ _ _).trans (dite_congr rfl (fun hj => ?_) fun _ => rfl)
  exact mm_at X W (i 1) _

end Cert.Up
-- ==== Proof.InProj.lean ====
/- The projection in, for the scan: a tile of rows against a tile of the transposed, padded weight's rows, and that the
   tiles make the reference's padded product. -/
module

public import proofs.«01_k».proof.Proof.Gen.Kernel3Ideal.Frame
public import proofs.«01_k».proof.Proof.Gen.Kernel3Ideal.Value
public import proofs.«01_k».proof.Proof.Gen.Reference3Ideal.Run
public import proofs.«01_k».proof.Proof.Pad
public import Idealize.ShloMosaic.Lib.StableHlo.ReadAt

@[expose] public section

set_option maxRecDepth 16384

noncomputable section

namespace Cert.InProj

open Cert.Kernel3Ideal Cert.Kernel3Ideal.Gen Idealize.ShloMosaic Idealize.ShloMosaic.TcCoe

/-- The padded product: the weight's columns from 1024 on, then zeros. -/
def prod (h : Vec Ideal S16384x4096 .bf16) (w : Vec Ideal S4096x9312 .f32) : Vec Ideal S16384x8448 .f32 :=
  fun i => if hj : (i 1).val < 8288 then ∑ k : Fin 4096, h (ix2 (i 0) k) * w (ix2 k ⟨1024 + (i 1).val, by omega⟩) else (0 : EReal)

theorem prod_at (h : Vec Ideal S16384x4096 .bf16) (w : Vec Ideal S4096x9312 .f32) (r : Fin 16384) (j : Fin 8448) :
    prod h w (ix2 r j) = if hj : j.val < 8288 then ∑ k : Fin 4096, h (ix2 r k) * w (ix2 k ⟨1024 + j.val, by omega⟩) else (0 : EReal) := rfl

theorem pay1_at (x : Vec Ideal S1024x4096 .bf16) (w : Vec Ideal S768x4096 .bf16) (r : Fin 1024) (q : Fin 768) :
    (k0_pay1 x w : Vec Ideal S1024x768 .f32) (ix2 r q) = ∑ k : Fin 4096, x (ix2 r k) * w (ix2 q k) := by
  pointwise [k0_pay1]

variable (m : (ℓ : Loc nD τ sig) → Buf (Elt Ideal) ℓ)

theorem idx0 : ∀ t : Fin cfg0.N, win0_0.index t (0 : Fin 2) = t.val / 11 ∧ win0_0.index t (1 : Fin 2) = 0 := by decide +kernel
theorem idx1 : ∀ t : Fin cfg0.N, win0_1.index t (0 : Fin 2) = t.val % 11 ∧ win0_1.index t (1 : Fin 2) = 0 := by decide +kernel
theorem idx2 : ∀ t : Fin cfg0.N, win0_2.index t (0 : Fin 2) = t.val / 11 ∧ win0_2.index t (1 : Fin 2) = t.val % 11 := by decide +kernel

theorem lt_N (t : Fin cfg0.N) : t.val < 176 := lt_of_lt_of_eq t.isLt N_0

/-- The row of a grid point's tile, -/
abbrev gRow (t : Fin cfg0.N) (r : Fin 1024) : Fin 16384 := ⟨t.val / 11 * 1024 + r.val, by have := lt_N t; omega⟩
/-- and the column. -/
abbrev gCol (t : Fin cfg0.N) (q : Fin 768) : Fin 8448 := ⟨t.val % 11 * 768 + q.val, by omega⟩

abbrev argH (c : Dev nD) : Vec Ideal S16384x4096 .bf16 := m ((c : Thread nD τ).loc main_arg0)
abbrev argW (c : Dev nD) : Vec Ideal S4096x9312 .f32 := m ((c : Thread nD τ).loc main_arg1)

theorem v3_at (c : Dev nD) (j : Fin 8448) (k : Fin 4096) :
    (V (F := Ideal) m c main_v3 : Vec Ideal S8448x4096 .bf16) (ix2 j k) = if hj : j.val < 8288 then argW m c (ix2 k ⟨1024 + j.val, by omega⟩) else (0 : EReal) := by
  unfold V
  after_reads_at
  exact Pad.dite_fill _

theorem blk0_at (c : Dev nD) (t : Fin cfg0.N) (r : Fin 1024) (k : Fin 4096) :
    (iblk (F := Ideal) m c 0 t : Vec Ideal S1024x4096 .bf16) (ix2 r k) = argH m c (ix2 (gRow t r) k) := by
  blk_ext! [iblk, V, idx0 t]

theorem blk1_at (c : Dev nD) (t : Fin cfg0.N) (q : Fin 768) (k : Fin 4096) :
    (iblk (F := Ideal) m c 1 t : Vec Ideal S768x4096 .bf16) (ix2 q k) = (V (F := Ideal) m c main_v3 : Vec Ideal S8448x4096 .bf16) (ix2 (gCol t q) k) := by
  blk_ext! [iblk, idx1 t]

theorem emb2 (X : Vec Ideal S16384x8448 .f32) (t : Fin cfg0.N) (r : Fin 1024) (q : Fin 768) :
    (((cfg0.win 2).blk t).view.read (Elt Ideal) X : Vec Ideal S1024x768 .f32) (ix2 r q) = X (ix2 (gRow t r) (gCol t q)) := by
  blk_ext! [idx2 t]

theorem point_at (c : Dev nD) (t : Fin cfg0.N) (r : Fin 1024) (q : Fin 768) :
    (k0_pay1 (F := Ideal) (iblk m c 0 t) (iblk m c 1 t) : Vec Ideal S1024x768 .f32) (ix2 r q)
      = (((cfg0.win 2).blk t).view.read (Elt Ideal) (prod (argH m c) (argW m c)) : Vec Ideal S1024x768 .f32) (ix2 r q) := by
  refine (pay1_at _ _ _ _).trans (Eq.trans ?_ (emb2 _ t _ _).symm)
  rw [prod_at]
  refine (Finset.sum_congr rfl fun k _ => ?_).trans (Pad.sum_pad (fun k => argH m c (ix2 (gRow t r) k)) fun hj k => argW m c (ix2 k ⟨1024 + (gCol t q).val, by omega⟩))
  exact congrArg₂ (fun a b : EReal => a * b) (blk0_at m c t r k) ((blk1_at m c t q k).trans (v3_at m c (gCol t q) k))

theorem point (c : Dev nD) (t : Fin cfg0.N) (y : S1024x768.Idx) :
    (k0_pay1 (F := Ideal) (iblk m c 0 t) (iblk m c 1 t) : Vec Ideal S1024x768 .f32) y
      = (((cfg0.win 2).blk t).view.read (Elt Ideal) (prod (argH m c) (argW m c)) : Vec Ideal S1024x768 .f32) y := by
  rw [eq_ix2 y]
  exact point_at m c t (y 0) (y 1)

theorem final (c : Dev nD) : (dats (F := Ideal) m 0 c).arrAt 2 cfg0.N = prod (argH m c) (argW m c) := by
  refine (dats m 0 c).arrAt_eq_of_covers 2 _ (by decide +kernel) fun t _ y => ?_
  blk_simp
  rw [after0_2]; frame_out
  exact point m c t y

section Reference

open Cert.Reference3Ideal Cert.Reference3Ideal.Gen

theorem ref_at (X : Vec Ideal Reference3Ideal.S16384x4096 .bf16) (W : Vec Ideal Reference3Ideal.S4096x9312 .f32) (r : Fin 16384) (j : Fin 8288) :
    (Host.dotGeneral (F := Ideal) (φ₂ := .f32) dot_S16384x4096_S4096x8288_S16384x8288_1_0_0_1_n_n none (extf (F := Ideal) .f32 X Reference3Ideal.Gen.bitsLt_bf16_f32)
      (extractStridedSlice Reference3Ideal.S4096x8288 ![0, 1024] W slices_S4096x9312_S4096x8288_0_1024) : Vec Ideal Reference3Ideal.S16384x8288 .f32) (ix2 r j)
      = ∑ k : Fin 4096, X (ix2 r k) * W (ix2 k ⟨1024 + j.val, by omega⟩) := by
  pointwise []

theorem padded (Y : Vec Ideal Reference3Ideal.S16384x8288 .f32) (r : Fin 16384) (j : Fin 8448) :
    (pad Reference3Ideal.S16384x8448 ![0, 0] ![0, 160] ![0, 0] Y (sitofp (F := Ideal) .f32 (constantI Reference3Ideal.S_ 32 0#32))
      pads_S16384x8288_S16384x8448_000_01600 Reference3Ideal.Gen.h_S_ : Vec Ideal Reference3Ideal.S16384x8448 .f32) (ix2 r j)
      = if hj : j.val < 8288 then Y (ix2 r ⟨j.val, hj⟩) else (0 : EReal) := by
  pointwise []
  exact Pad.dite_fill _

theorem ref_prod (X : Vec Ideal Reference3Ideal.S16384x4096 .bf16) (W : Vec Ideal Reference3Ideal.S4096x9312 .f32) :
    (pad Reference3Ideal.S16384x8448 ![0, 0] ![0, 160] ![0, 0] (Host.dotGeneral (F := Ideal) (φ₂ := .f32) dot_S16384x4096_S4096x8288_S16384x8288_1_0_0_1_n_n none
      (extf (F := Ideal) .f32 X Reference3Ideal.Gen.bitsLt_bf16_f32) (extractStridedSlice Reference3Ideal.S4096x8288 ![0, 1024] W slices_S4096x9312_S4096x8288_0_1024))
      (sitofp (F := Ideal) .f32 (constantI Reference3Ideal.S_ 32 0#32)) pads_S16384x8288_S16384x8448_000_01600 Reference3Ideal.Gen.h_S_ : Vec Ideal Reference3Ideal.S16384x8448 .f32)
      = prod X W := by
  funext i
  rw [eq_ix2 i]
  refine (padded _ _ _).trans (dite_congr rfl (fun hj => ?_) fun _ => rfl)
  exact ref_at X W (i 0) _

end Reference

end Cert.InProj
-- ==== Proof.OutProj.lean ====
/- The projection out with its gate and residual: two products against the weight's upper and lower rows, and that their
   sum is the reference's product of the joined rows. -/
module

public import proofs.«01_k».proof.Proof.Gen.Kernel4Ideal.Frame
public import proofs.«01_k».proof.Proof.Gen.Kernel4Ideal.Value
public import proofs.«01_k».proof.Proof.Gen.Reference4Ideal.Run
public import Idealize.ShloMosaic.Lib.Pipeline.ValueKit
public import Idealize.ShloMosaic.Lib.StableHlo.ReadAt

@[expose] public section

set_option maxRecDepth 16384

noncomputable section

namespace Cert.OutProj

open Cert.Kernel4Ideal Cert.Kernel4Ideal.Gen Idealize.ShloMosaic Idealize.ShloMosaic.TcCoe

/-- Token `r` of all: its sequence, -/
abbrev sq (r : Fin 16384) : Fin 2 := ⟨r.val / 8192, by omega⟩
/-- and its place there. -/
abbrev pl (r : Fin 16384) : Fin 8192 := ⟨r.val % 8192, by omega⟩

/-- The residual plus the gated product of the joined rows. -/
def res (x : Vec Ideal S2x8192x4096 .f32) (f : Vec Ideal S2x8192x1024 .bf16) (s : Vec Ideal S2x8192x3072 .bf16) (g : Vec Ideal S2x4096 .f32)
    (w : Vec Ideal S4096x4096 .f32) (r : Fin 16384) (j : Fin 4096) : EReal :=
  x (ix3 (sq r) (pl r) j) + g (ix2 (sq r) j) * ((∑ k : Fin 1024, f (ix3 (sq r) (pl r) k) * w (ix2 ⟨k.val, by omega⟩ j))
    + ∑ k : Fin 3072, s (ix3 (sq r) (pl r) k) * w (ix2 ⟨1024 + k.val, by omega⟩ j))

theorem pay1_at (a : Vec Ideal S1024x1024 .bf16) (b : Vec Ideal S1024x1024 .bf16) (d : Vec Ideal S1024x3072 .bf16) (e : Vec Ideal S3072x1024 .bf16)
    (x : Vec Ideal S1024x1024 .f32) (g : Vec Ideal S1x1x1024 .f32) (r : Fin 1024) (q : Fin 1024) :
    (k0_pay1 a b d e x g : Vec Ideal S1024x1024 .f32) (ix2 r q)
      = x (ix2 r q) + g (ix3 0 0 q) * ((∑ k : Fin 1024, a (ix2 r k) * b (ix2 k q)) + ∑ k : Fin 3072, d (ix2 r k) * e (ix2 k q)) := by
  pointwise [k0_pay1]

variable (m : (ℓ : Loc nD τ sig) → Buf (Elt Ideal) ℓ)

theorem idx0 : ∀ t : Fin cfg0.N, win0_0.index t (0 : Fin 2) = t.val / 4 ∧ win0_0.index t (1 : Fin 2) = 0 := by decide +kernel
theorem idx1 : ∀ t : Fin cfg0.N, win0_1.index t (0 : Fin 2) = t.val / 4 ∧ win0_1.index t (1 : Fin 2) = 0 := by decide +kernel
theorem idx2 : ∀ t : Fin cfg0.N, win0_2.index t (0 : Fin 2) = 0 ∧ win0_2.index t (1 : Fin 2) = t.val % 4 := by decide +kernel
theorem idx3 : ∀ t : Fin cfg0.N, win0_3.index t (0 : Fin 2) = t.val / 4 ∧ win0_3.index t (1 : Fin 2) = t.val % 4 := by decide +kernel
theorem idx4 : ∀ t : Fin cfg0.N, win0_4.index t (0 : Fin 3) = t.val / 32 ∧ win0_4.index t (1 : Fin 3) = 0 ∧ win0_4.index t (2 : Fin 3) = t.val % 4 := by decide +kernel
theorem idx5 : ∀ t : Fin cfg0.N, win0_5.index t (0 : Fin 2) = t.val / 4 ∧ win0_5.index t (1 : Fin 2) = t.val % 4 := by decide +kernel

theorem lt_N (t : Fin cfg0.N) : t.val < 64 := lt_of_lt_of_eq t.isLt N_0

abbrev gRow (t : Fin cfg0.N) (r : Fin 1024) : Fin 16384 := ⟨t.val / 4 * 1024 + r.val, by have := lt_N t; omega⟩
abbrev gCol (t : Fin cfg0.N) (q : Fin 1024) : Fin 4096 := ⟨t.val % 4 * 1024 + q.val, by omega⟩

abbrev argX (c : Dev nD) : Vec Ideal S2x8192x4096 .f32 := m ((c : Thread nD τ).loc main_arg0)
abbrev argF (c : Dev nD) : Vec Ideal S2x8192x1024 .bf16 := m ((c : Thread nD τ).loc main_arg1)
abbrev argS (c : Dev nD) : Vec Ideal S2x8192x3072 .bf16 := m ((c : Thread nD τ).loc main_arg2)
abbrev argG (c : Dev nD) : Vec Ideal S2x4096 .f32 := m ((c : Thread nD τ).loc main_arg3)
abbrev argW (c : Dev nD) : Vec Ideal S4096x4096 .f32 := m ((c : Thread nD τ).loc main_arg4)

/-! The arrays that the host prepares. -/

theorem v0_at (c : Dev nD) (r : Fin 16384) (k : Fin 1024) :
    (V (F := Ideal) m c main_v0 : Vec Ideal S16384x1024 .bf16) (ix2 r k) = argF m c (ix3 (sq r) (pl r) k) := by
  unfold V
  after_reads_at

theorem v1_at (c : Dev nD) (r : Fin 16384) (k : Fin 3072) :
    (V (F := Ideal) m c main_v1 : Vec Ideal S16384x3072 .bf16) (ix2 r k) = argS m c (ix3 (sq r) (pl r) k) := by
  unfold V
  after_reads_at

theorem v2_at (c : Dev nD) (k : Fin 4096) (j : Fin 4096) :
    (V (F := Ideal) m c main_v2 : Vec Ideal S4096x4096 .bf16) (ix2 k j) = argW m c (ix2 k j) := by
  unfold V
  after_reads_at

theorem v3_at (c : Dev nD) (r : Fin 16384) (k : Fin 4096) :
    (V (F := Ideal) m c main_v3 : Vec Ideal S16384x4096 .f32) (ix2 r k) = argX m c (ix3 (sq r) (pl r) k) := by
  unfold V
  after_reads_at

theorem v4_at (c : Dev nD) (b : Fin 2) (j : Fin 4096) :
    (V (F := Ideal) m c main_v4 : Vec Ideal S2x1x4096 .f32) (ix3 b 0 j) = argG m c (ix2 b j) := by
  unfold V
  after_reads_at

/-! The blocks of a grid point. -/

theorem blk0_at (c : Dev nD) (t : Fin cfg0.N) (r : Fin 1024) (k : Fin 1024) :
    (iblk (F := Ideal) m c 0 t : Vec Ideal S1024x1024 .bf16) (ix2 r k) = (V (F := Ideal) m c main_v0 : Vec Ideal S16384x1024 .bf16) (ix2 (gRow t r) k) := by
  blk_ext! [iblk, idx0 t]

theorem blk1_at (c : Dev nD) (t : Fin cfg0.N) (r : Fin 1024) (k : Fin 3072) :
    (iblk (F := Ideal) m c 1 t : Vec Ideal S1024x3072 .bf16) (ix2 r k) = (V (F := Ideal) m c main_v1 : Vec Ideal S16384x3072 .bf16) (ix2 (gRow t r) k) := by
  blk_ext! [iblk, idx1 t]

theorem blk2_at (c : Dev nD) (t : Fin cfg0.N) (k : Fin 4096) (q : Fin 1024) :
    (iblk (F := Ideal) m c 2 t : Vec Ideal S4096x1024 .bf16) (ix2 k q) = (V (F := Ideal) m c main_v2 : Vec Ideal S4096x4096 .bf16) (ix2 k (gCol t q)) := by
  blk_ext! [iblk, idx2 t]

theorem blk3_at (c : Dev nD) (t : Fin cfg0.N) (r : Fin 1024) (q : Fin 1024) :
    (iblk (F := Ideal) m c 3 t : Vec Ideal S1024x1024 .f32) (ix2 r q) = (V (F := Ideal) m c main_v3 : Vec Ideal S16384x4096 .f32) (ix2 (gRow t r) (gCol t q)) := by
  blk_ext! [iblk, idx3 t]

theorem blk4_at (c : Dev nD) (t : Fin cfg0.N) (q : Fin 1024) :
    (iblk (F := Ideal) m c 4 t : Vec Ideal S1x1x1024 .f32) (ix3 0 0 q) = (V (F := Ideal) m c main_v4 : Vec Ideal S2x1x4096 .f32) (ix3 ⟨t.val / 32, by have := lt_N t; omega⟩ 0 (gCol t q)) := by
  blk_ext! [iblk, idx4 t]

theorem emb5 (X : Vec Ideal S16384x4096 .f32) (t : Fin cfg0.N) (r : Fin 1024) (q : Fin 1024) :
    (((cfg0.win 5).blk t).view.read (Elt Ideal) X : Vec Ideal S1024x1024 .f32) (ix2 r q) = X (ix2 (gRow t r) (gCol t q)) := by
  blk_ext! [idx5 t]

/-- All of the result. -/
def out (x : Vec Ideal S2x8192x4096 .f32) (f : Vec Ideal S2x8192x1024 .bf16) (s : Vec Ideal S2x8192x3072 .bf16) (g : Vec Ideal S2x4096 .f32)
    (w : Vec Ideal S4096x4096 .f32) : Vec Ideal S16384x4096 .f32 := fun i => res x f s g w (i 0) (i 1)

theorem out_at (x : Vec Ideal S2x8192x4096 .f32) (f : Vec Ideal S2x8192x1024 .bf16) (s : Vec Ideal S2x8192x3072 .bf16) (g : Vec Ideal S2x4096 .f32)
    (w : Vec Ideal S4096x4096 .f32) (r : Fin 16384) (j : Fin 4096) : out x f s g w (ix2 r j) = res x f s g w r j := rfl

theorem sq_row (t : Fin cfg0.N) (r : Fin 1024) (h : t.val / 32 < 2) : (⟨t.val / 32, h⟩ : Fin 2) = sq (gRow t r) :=
  Fin.ext (by have := r.isLt; show t.val / 32 = (t.val / 4 * 1024 + r.val) / 8192; omega)

/-- The weight block's upper rows -/
theorem upper_at (X : Vec Ideal S4096x1024 .bf16) (k : Fin 1024) (q : Fin 1024) :
    (View.ld X r0_1 : Vec Ideal S1024x1024 .bf16) (ix2 k q) = X (ix2 ⟨k.val, by omega⟩ q) := by
  pointwise []

/-- and its lower rows. -/
theorem lower_at (X : Vec Ideal S4096x1024 .bf16) (k : Fin 3072) (q : Fin 1024) :
    (View.ld X r0_3 : Vec Ideal S3072x1024 .bf16) (ix2 k q) = X (ix2 ⟨1024 + k.val, by omega⟩ q) := by
  pointwise []

theorem point_at (c : Dev nD) (t : Fin cfg0.N) (r : Fin 1024) (q : Fin 1024) :
    (k0_pay1 (F := Ideal) (iblk m c 0 t) (View.ld (iblk m c 2 t) r0_1) (iblk m c 1 t) (View.ld (iblk m c 2 t) r0_3) (iblk m c 3 t) (iblk m c 4 t) : Vec Ideal S1024x1024 .f32) (ix2 r q)
      = (((cfg0.win 5).blk t).view.read (Elt Ideal) (out (argX m c) (argF m c) (argS m c) (argG m c) (argW m c)) : Vec Ideal S1024x1024 .f32) (ix2 r q) := by
  refine (pay1_at _ _ _ _ _ _ _ _).trans (Eq.trans ?_ (emb5 _ t _ _).symm)
  rw [out_at]
  unfold res
  refine congrArg₂ (fun a b : EReal => a + b) ((blk3_at m c t r q).trans (v3_at m c _ _)) (congrArg₂ (fun a b : EReal => a * b) ?_ (congrArg₂ (fun a b : EReal => a + b) ?_ ?_))
  · refine (blk4_at m c t q).trans ((v4_at m c _ _).trans ?_)
    rw [sq_row t r]
  · exact Finset.sum_congr rfl fun k _ => congrArg₂ (fun a b : EReal => a * b) ((blk0_at m c t r k).trans (v0_at m c _ k))
      ((upper_at _ k q).trans ((blk2_at m c t _ q).trans (v2_at m c _ _)))
  · exact Finset.sum_congr rfl fun k _ => congrArg₂ (fun a b : EReal => a * b) ((blk1_at m c t r k).trans (v1_at m c _ k))
      ((lower_at _ k q).trans ((blk2_at m c t _ q).trans (v2_at m c _ _)))

theorem final (c : Dev nD) : (dats (F := Ideal) m 0 c).arrAt 5 cfg0.N = out (argX m c) (argF m c) (argS m c) (argG m c) (argW m c) := by
  refine (dats m 0 c).arrAt_eq_of_covers 5 _ (by decide +kernel) fun t _ y => ?_
  blk_simp
  rw [after0_5]; frame_out
  have e : y = ix2 (y 0) (y 1) := eq_ix2 y
  rw [e]
  exact point_at m c t (y 0) (y 1)

section Reference

open Cert.Reference4Ideal Cert.Reference4Ideal.Gen

theorem ref_at (x : Vec Ideal Reference4Ideal.S2x8192x4096 .f32) (f : Vec Ideal Reference4Ideal.S2x8192x1024 .bf16) (s : Vec Ideal Reference4Ideal.S2x8192x3072 .bf16) (g : Vec Ideal Reference4Ideal.S2x4096 .f32)
    (w : Vec Ideal Reference4Ideal.S4096x4096 .f32) (r : Fin 16384) (j : Fin 4096) :
    (shapeCast Reference4Ideal.S16384x4096 (addf (F := Ideal) (φ := .f32) x (mulf (F := Ideal) (φ := .f32) (broadcastInDim Reference4Ideal.S2x8192x4096 ![0, 1, 2] bcast_S2x1x4096_S2x8192x4096_0_1_2 (broadcastInDim Reference4Ideal.S2x1x4096 ![0, 2] bcast_S2x4096_S2x1x4096_0_2 g))
      (Host.dotGeneral (F := Ideal) (φ₂ := .f32) dot_S2x8192x4096_S4096x4096_S2x8192x4096_2_0_01_1_n_n none (concatenate Reference4Ideal.S2x8192x4096 2 [⟨Reference4Ideal.S2x8192x1024, (extf (F := Ideal) .f32 f Reference4Ideal.Gen.bitsLt_bf16_f32)⟩, ⟨Reference4Ideal.S2x8192x3072, (extf (F := Ideal) .f32 s Reference4Ideal.Gen.bitsLt_bf16_f32)⟩] concatenates_S2x8192x1024_S2x8192x3072_S2x8192x4096_d2) w))) Reference4Ideal.Gen.shapeCasts_S2x8192x4096_S16384x4096 : Vec Ideal Reference4Ideal.S16384x4096 .f32) (ix2 r j)
      = res x f s g w r j := by
  unfold res
  pointwise []

theorem ref_out (x : Vec Ideal Reference4Ideal.S2x8192x4096 .f32) (f : Vec Ideal Reference4Ideal.S2x8192x1024 .bf16) (s : Vec Ideal Reference4Ideal.S2x8192x3072 .bf16) (g : Vec Ideal Reference4Ideal.S2x4096 .f32)
    (w : Vec Ideal Reference4Ideal.S4096x4096 .f32) :
    (shapeCast Reference4Ideal.S16384x4096 (addf (F := Ideal) (φ := .f32) x (mulf (F := Ideal) (φ := .f32) (broadcastInDim Reference4Ideal.S2x8192x4096 ![0, 1, 2] bcast_S2x1x4096_S2x8192x4096_0_1_2 (broadcastInDim Reference4Ideal.S2x1x4096 ![0, 2] bcast_S2x4096_S2x1x4096_0_2 g))
      (Host.dotGeneral (F := Ideal) (φ₂ := .f32) dot_S2x8192x4096_S4096x4096_S2x8192x4096_2_0_01_1_n_n none (concatenate Reference4Ideal.S2x8192x4096 2 [⟨Reference4Ideal.S2x8192x1024, (extf (F := Ideal) .f32 f Reference4Ideal.Gen.bitsLt_bf16_f32)⟩, ⟨Reference4Ideal.S2x8192x3072, (extf (F := Ideal) .f32 s Reference4Ideal.Gen.bitsLt_bf16_f32)⟩] concatenates_S2x8192x1024_S2x8192x3072_S2x8192x4096_d2) w))) Reference4Ideal.Gen.shapeCasts_S2x8192x4096_S16384x4096 : Vec Ideal Reference4Ideal.S16384x4096 .f32)
      = out x f s g w := by
  funext i
  rw [eq_ix2 i]
  exact ref_at x f s g w (i 0) (i 1)

end Reference

end Cert.OutProj
-- ==== Proof.InProjU.lean ====
/- The projection in, for the Fourier mixer: a tile of rows against a tile of the transposed weight's first rows, and that
   the tiles make the reference's product. -/
module

public import proofs.«01_k».proof.Proof.Gen.Kernel5Ideal.Frame
public import proofs.«01_k».proof.Proof.Gen.Kernel5Ideal.Value
public import proofs.«01_k».proof.Proof.Gen.Reference5Ideal.Run
public import Idealize.ShloMosaic.Lib.Pipeline.ValueKit
public import Idealize.ShloMosaic.Lib.StableHlo.ReadAt

@[expose] public section

set_option maxRecDepth 16384

noncomputable section

namespace Cert.InProjU

open Cert.Kernel5Ideal Cert.Kernel5Ideal.Gen Idealize.ShloMosaic Idealize.ShloMosaic.TcCoe

/-- The product with the weight's first 1024 columns. -/
def prod (h : Vec Ideal S16384x4096 .bf16) (w : Vec Ideal S4096x9312 .f32) : Vec Ideal S16384x1024 .f32 :=
  fun i => ∑ k : Fin 4096, h (ix2 (i 0) k) * w (ix2 k ⟨(i 1).val, lt_trans (i 1).isLt (by decide)⟩)

theorem prod_at (h : Vec Ideal S16384x4096 .bf16) (w : Vec Ideal S4096x9312 .f32) (r : Fin 16384) (j : Fin 1024) :
    prod h w (ix2 r j) = ∑ k : Fin 4096, h (ix2 r k) * w (ix2 k ⟨j.val, by omega⟩) := rfl

theorem pay1_at (x : Vec Ideal S1024x4096 .bf16) (w : Vec Ideal S512x4096 .bf16) (r : Fin 1024) (q : Fin 512) :
    (k0_pay1 x w : Vec Ideal S1024x512 .f32) (ix2 r q) = ∑ k : Fin 4096, x (ix2 r k) * w (ix2 q k) := by
  pointwise [k0_pay1]

variable (m : (ℓ : Loc nD τ sig) → Buf (Elt Ideal) ℓ)

theorem idx0 : ∀ t : Fin cfg0.N, win0_0.index t (0 : Fin 2) = t.val / 2 ∧ win0_0.index t (1 : Fin 2) = 0 := by decide +kernel
theorem idx1 : ∀ t : Fin cfg0.N, win0_1.index t (0 : Fin 2) = t.val % 2 ∧ win0_1.index t (1 : Fin 2) = 0 := by decide +kernel
theorem idx2 : ∀ t : Fin cfg0.N, win0_2.index t (0 : Fin 2) = t.val / 2 ∧ win0_2.index t (1 : Fin 2) = t.val % 2 := by decide +kernel

theorem lt_N (t : Fin cfg0.N) : t.val < 32 := lt_of_lt_of_eq t.isLt N_0

abbrev gRow (t : Fin cfg0.N) (r : Fin 1024) : Fin 16384 := ⟨t.val / 2 * 1024 + r.val, by have := lt_N t; omega⟩
abbrev gCol (t : Fin cfg0.N) (q : Fin 512) : Fin 1024 := ⟨t.val % 2 * 512 + q.val, by omega⟩

abbrev argH (c : Dev nD) : Vec Ideal S16384x4096 .bf16 := m ((c : Thread nD τ).loc main_arg0)
abbrev argW (c : Dev nD) : Vec Ideal S4096x9312 .f32 := m ((c : Thread nD τ).loc main_arg1)

theorem v2_at (c : Dev nD) (j : Fin 1024) (k : Fin 4096) :
    (V (F := Ideal) m c main_v2 : Vec Ideal S1024x4096 .bf16) (ix2 j k) = argW m c (ix2 k ⟨j.val, by omega⟩) := by
  unfold V
  after_reads_at

theorem blk0_at (c : Dev nD) (t : Fin cfg0.N) (r : Fin 1024) (k : Fin 4096) :
    (iblk (F := Ideal) m c 0 t : Vec Ideal S1024x4096 .bf16) (ix2 r k) = argH m c (ix2 (gRow t r) k) := by
  blk_ext! [iblk, V, idx0 t]

theorem blk1_at (c : Dev nD) (t : Fin cfg0.N) (q : Fin 512) (k : Fin 4096) :
    (iblk (F := Ideal) m c 1 t : Vec Ideal S512x4096 .bf16) (ix2 q k) = (V (F := Ideal) m c main_v2 : Vec Ideal S1024x4096 .bf16) (ix2 (gCol t q) k) := by
  blk_ext! [iblk, idx1 t]

theorem emb2 (X : Vec Ideal S16384x1024 .f32) (t : Fin cfg0.N) (r : Fin 1024) (q : Fin 512) :
    (((cfg0.win 2).blk t).view.read (Elt Ideal) X : Vec Ideal S1024x512 .f32) (ix2 r q) = X (ix2 (gRow t r) (gCol t q)) := by
  blk_ext! [idx2 t]

theorem point_at (c : Dev nD) (t : Fin cfg0.N) (r : Fin 1024) (q : Fin 512) :
    (k0_pay1 (F := Ideal) (iblk m c 0 t) (iblk m c 1 t) : Vec Ideal S1024x512 .f32) (ix2 r q)
      = (((cfg0.win 2).blk t).view.read (Elt Ideal) (prod (argH m c) (argW m c)) : Vec Ideal S1024x512 .f32) (ix2 r q) := by
  refine (pay1_at _ _ _ _).trans (Eq.trans ?_ (emb2 _ t _ _).symm)
  rw [prod_at]
  exact Finset.sum_congr rfl fun k _ => congrArg₂ (fun a b : EReal => a * b) (blk0_at m c t r k) ((blk1_at m c t q k).trans (v2_at m c (gCol t q) k))

theorem point (c : Dev nD) (t : Fin cfg0.N) (y : S1024x512.Idx) :
    (k0_pay1 (F := Ideal) (iblk m c 0 t) (iblk m c 1 t) : Vec Ideal S1024x512 .f32) y
      = (((cfg0.win 2).blk t).view.read (Elt Ideal) (prod (argH m c) (argW m c)) : Vec Ideal S1024x512 .f32) y := by
  rw [eq_ix2 y]
  exact point_at m c t (y 0) (y 1)

theorem final (c : Dev nD) : (dats (F := Ideal) m 0 c).arrAt 2 cfg0.N = prod (argH m c) (argW m c) := by
  refine (dats m 0 c).arrAt_eq_of_covers 2 _ (by decide +kernel) fun t _ y => ?_
  blk_simp
  rw [after0_2]; frame_out
  exact point m c t y

section Reference

open Cert.Reference5Ideal Cert.Reference5Ideal.Gen

theorem ref_at (X : Vec Ideal Reference5Ideal.S16384x4096 .bf16) (W : Vec Ideal Reference5Ideal.S4096x9312 .f32) (r : Fin 16384) (j : Fin 1024) :
    (Host.dotGeneral (F := Ideal) (φ₂ := .f32) dot_S16384x4096_S4096x1024_S16384x1024_1_0_0_1_n_n none (extf (F := Ideal) .f32 X Reference5Ideal.Gen.bitsLt_bf16_f32)
      (extractStridedSlice Reference5Ideal.S4096x1024 ![0, 0] W slices_S4096x9312_S4096x1024_0_0) : Vec Ideal Reference5Ideal.S16384x1024 .f32) (ix2 r j)
      = ∑ k : Fin 4096, X (ix2 r k) * W (ix2 k ⟨j.val, by omega⟩) := by
  pointwise []

theorem ref_prod (X : Vec Ideal Reference5Ideal.S16384x4096 .bf16) (W : Vec Ideal Reference5Ideal.S4096x9312 .f32) :
    (Host.dotGeneral (F := Ideal) (φ₂ := .f32) dot_S16384x4096_S4096x1024_S16384x1024_1_0_0_1_n_n none (extf (F := Ideal) .f32 X Reference5Ideal.Gen.bitsLt_bf16_f32)
      (extractStridedSlice Reference5Ideal.S4096x1024 ![0, 0] W slices_S4096x9312_S4096x1024_0_0) : Vec Ideal Reference5Ideal.S16384x1024 .f32)
      = prod X W := by
  funext i
  rw [eq_ix2 i]
  exact ref_at X W (i 0) (i 1)

end Reference

end Cert.InProjU
-- ==== Proof.Proj.lean ====
/- The projections' claims: their frames, and that kernel and reference agree over the extended reals. -/
module

public import proofs.«01_k».proof.Defs
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.UpRef
public import proofs.«01_k».proof.Proof.InProj
public import proofs.«01_k».proof.Proof.OutProj
public import proofs.«01_k».proof.Proof.InProjU
public import Idealize.ShloMosaic.Adequacy
public import Idealize.ShloMosaic.Init

@[expose] public section

set_option maxRecDepth 16384

noncomputable section

namespace Cert.Proj

open Idealize.ShloMosaic Idealize.SL.Sem

/-! The references declare no semaphore. -/

theorem frame_reference2 : Cert.quiescent_Reference2Ideal (hReference2Ideal := Cert.Reference2Ideal.Gen.facts) := fun m ρ _ =>
  (θ_run (Cert.Reference2Ideal.defs (F := Ideal)) _ _).mono (fun r h => ⟨fun c => (h c).2.2, sem_eq_zero_of_no_sems (by decide) r.2⟩)
    (Cert.Reference2Ideal.Value.run (F := Ideal) m ρ)

theorem frame_reference3 : Cert.quiescent_Reference3Ideal (hReference3Ideal := Cert.Reference3Ideal.Gen.facts) := fun m ρ _ =>
  (θ_run (Cert.Reference3Ideal.defs (F := Ideal)) _ _).mono (fun r h => ⟨fun c => (h c).2, sem_eq_zero_of_no_sems (by decide) r.2⟩)
    (Cert.Reference3Ideal.Value.run (F := Ideal) m ρ)

theorem frame_reference4 : Cert.quiescent_Reference4Ideal (hReference4Ideal := Cert.Reference4Ideal.Gen.facts) := fun m ρ _ =>
  (θ_run (Cert.Reference4Ideal.defs (F := Ideal)) _ _).mono (fun r h => ⟨fun c => (h c).2, sem_eq_zero_of_no_sems (by decide) r.2⟩)
    (Cert.Reference4Ideal.Value.run (F := Ideal) m ρ)

theorem frame_reference5 : Cert.quiescent_Reference5Ideal (hReference5Ideal := Cert.Reference5Ideal.Gen.facts) := fun m ρ _ =>
  (θ_run (Cert.Reference5Ideal.defs (F := Ideal)) _ _).mono (fun r h => ⟨fun c => (h c).2, sem_eq_zero_of_no_sems (by decide) r.2⟩)
    (Cert.Reference5Ideal.Value.run (F := Ideal) m ρ)

theorem algebraic2 : Cert.algebraic_Kernel2Ideal_Reference2Ideal (hKernel2Ideal := Cert.Kernel2Ideal.Gen.facts) (hReference2Ideal := Cert.Reference2Ideal.Gen.facts) := by
  intro m g m' g' _ hargs
  refine ⟨fun c => Up.tiles (Up.argH m c) (Up.argU m c), fun c => Up.tiles (Up.argH m c) (Up.argG m c), ?_, ?_⟩
  · exact (θ_run (Cert.Kernel2Ideal.defs (F := Ideal)) _ _).mono
      (fun _ h c => ⟨(h c).1.trans (Up.final3 m c), (h c).2.1.trans (Up.final4 m c), (h c).2.2⟩) (Cert.Kernel2Ideal.Value.run_blocks (F := Ideal) m g)
  · refine (θ_run (Cert.Reference2Ideal.defs (F := Ideal)) _ _).mono (fun _ h c => ?_) (Cert.Reference2Ideal.Value.run (F := Ideal) m' g')
    obtain ⟨e0, e1, e2⟩ := hargs c
    refine ⟨(h c).1.trans ((Up.ref_tiles _ _).trans ?_), (h c).2.1.trans ((Up.ref_tiles _ _).trans ?_), (h c).2.2⟩
    · rw [e0, e1]
    · rw [e0, e2]

theorem algebraic3 : Cert.algebraic_Kernel3Ideal_Reference3Ideal (hKernel3Ideal := Cert.Kernel3Ideal.Gen.facts) (hReference3Ideal := Cert.Reference3Ideal.Gen.facts) := by
  intro m g m' g' _ hargs
  refine ⟨fun c => InProj.prod (InProj.argH m c) (InProj.argW m c), ?_, ?_⟩
  · exact (θ_run (Cert.Kernel3Ideal.defs (F := Ideal)) _ _).mono
      (fun _ h c => ⟨(h c).1.trans (InProj.final m c), (h c).2⟩) (Cert.Kernel3Ideal.Value.run_blocks (F := Ideal) m g)
  · refine (θ_run (Cert.Reference3Ideal.defs (F := Ideal)) _ _).mono (fun _ h c => ?_) (Cert.Reference3Ideal.Value.run (F := Ideal) m' g')
    obtain ⟨e0, e1⟩ := hargs c
    refine ⟨(h c).1.trans ((InProj.ref_prod _ _).trans ?_), (h c).2⟩
    rw [e0, e1]

theorem algebraic4 : Cert.algebraic_Kernel4Ideal_Reference4Ideal (hKernel4Ideal := Cert.Kernel4Ideal.Gen.facts) (hReference4Ideal := Cert.Reference4Ideal.Gen.facts) := by
  intro m g m' g' _ hargs
  refine ⟨fun c => OutProj.out (OutProj.argX m c) (OutProj.argF m c) (OutProj.argS m c) (OutProj.argG m c) (OutProj.argW m c), ?_, ?_⟩
  · exact (θ_run (Cert.Kernel4Ideal.defs (F := Ideal)) _ _).mono
      (fun _ h c => ⟨(h c).1.trans (OutProj.final m c), (h c).2⟩) (Cert.Kernel4Ideal.Value.run_blocks (F := Ideal) m g)
  · refine (θ_run (Cert.Reference4Ideal.defs (F := Ideal)) _ _).mono (fun _ h c => ?_) (Cert.Reference4Ideal.Value.run (F := Ideal) m' g')
    obtain ⟨e0, e1, e2, e3, e4⟩ := hargs c
    refine ⟨(h c).1.trans ((OutProj.ref_out _ _ _ _ _).trans ?_), (h c).2⟩
    rw [e0, e1, e2, e3, e4]

theorem algebraic5 : Cert.algebraic_Kernel5Ideal_Reference5Ideal (hKernel5Ideal := Cert.Kernel5Ideal.Gen.facts) (hReference5Ideal := Cert.Reference5Ideal.Gen.facts) := by
  intro m g m' g' _ hargs
  refine ⟨fun c => InProjU.prod (InProjU.argH m c) (InProjU.argW m c), ?_, ?_⟩
  · exact (θ_run (Cert.Kernel5Ideal.defs (F := Ideal)) _ _).mono
      (fun _ h c => ⟨(h c).1.trans (InProjU.final m c), (h c).2⟩) (Cert.Kernel5Ideal.Value.run_blocks (F := Ideal) m g)
  · refine (θ_run (Cert.Reference5Ideal.defs (F := Ideal)) _ _).mono (fun _ h c => ?_) (Cert.Reference5Ideal.Value.run (F := Ideal) m' g')
    obtain ⟨e0, e1⟩ := hargs c
    refine ⟨(h c).1.trans ((InProjU.ref_prod _ _).trans ?_), (h c).2⟩
    rw [e0, e1]

end Cert.Proj
-- ==== Proof.lean ====
module

public import proofs.«01_k».proof.Defs
public import proofs.«01_k».proof.Proof.Gen.Kernel.Frame
public import proofs.«01_k».proof.Proof.Value
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Proj
public import Idealize.ShloMosaic.Adequacy
public import Idealize.ShloMosaic.Init

@[expose] public section

set_option maxRecDepth 16384

noncomputable section

namespace Cert.Proof

open Idealize.ShloMosaic Idealize.SL.Sem

theorem frame_kernel : Cert.quiescent_Kernel (hKernel := Cert.Kernel.Gen.facts) := fun m ρ _ =>
  Cert.Kernel.Gen.frame m ρ

theorem frame_ideal : Cert.quiescent_KernelIdeal (hKernelIdeal := Cert.KernelIdeal.Gen.facts) := fun m ρ _ =>
  Cert.KernelIdeal.Gen.frame m ρ

-- the reference declares no semaphore
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2.2, sem_eq_zero_of_no_sems (by decide) r.2⟩)
    (Cert.ReferenceIdeal.Value.run (F := Ideal) m ρ)

theorem algebraic : Cert.algebraic_KernelIdeal_ReferenceIdeal (hKernelIdeal := Cert.KernelIdeal.Gen.facts) (hReferenceIdeal := Cert.ReferenceIdeal.Gen.facts) := by
  intro m g m' g' _ hargs
  have ha (c : Dev Cert.KernelIdeal.nD) : Cert.Scan.rargs m' c = Cert.Scan.args m c := by
    obtain ⟨e0, e1, e2, e3, e4⟩ := hargs c
    unfold Cert.Scan.rargs Cert.Scan.args
    congr 1
  refine ⟨fun c => Cert.KernelIdeal.Value.G8 m c, fun c => Cert.KernelIdeal.Value.G9 m c, Cert.KernelIdeal.Value.run m g, ?_⟩
  refine (θ_run (Cert.ReferenceIdeal.defs (F := Ideal)) _ _).mono (fun _ h c => ?_) (Cert.ReferenceIdeal.Value.run (F := Ideal) m' g')
  refine ⟨(h c).1.trans ((Cert.Scan.last_y m' c).trans ?_), (h c).2.1.trans ((Cert.Scan.last_h m' c).trans ?_), (h c).2.2⟩
  · rw [ha c]
    exact (Cert.Scan.y_eq m c).symm
  · rw [ha c]
    exact (Cert.Scan.h_eq m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  frame_kernel, frame_ideal, frame_reference,
  fun m ρ _ => Cert.Kernel2.Gen.frame m ρ, fun m ρ _ => Cert.Kernel2Ideal.Gen.frame m ρ, Cert.Proj.frame_reference2,
  fun m ρ _ => Cert.Kernel3.Gen.frame m ρ, fun m ρ _ => Cert.Kernel3Ideal.Gen.frame m ρ, Cert.Proj.frame_reference3,
  fun m ρ _ => Cert.Kernel4.Gen.frame m ρ, fun m ρ _ => Cert.Kernel4Ideal.Gen.frame m ρ, Cert.Proj.frame_reference4,
  fun m ρ _ => Cert.Kernel5.Gen.frame m ρ, fun m ρ _ => Cert.Kernel5Ideal.Gen.frame m ρ, Cert.Proj.frame_reference5,
  trivial, algebraic, trivial, Cert.Proj.algebraic2, trivial, Cert.Proj.algebraic3, trivial, Cert.Proj.algebraic4, trivial, Cert.Proj.algebraic5⟩

end Cert.Proof

end
